-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale [hPre_finite_scale : Cert.Pre_finite_scale.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale [hPre_finite_scale : Cert.Pre_finite_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scale [hKernelIdeal : Cert.KernelIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scale [hReferenceIdeal : Cert.ReferenceIdeal.Facts] [hPre_finite_scale : Cert.Pre_finite_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E38AA3B#32 (((1 / 8) * (Real.log 2)⁻¹ : ℝ) : EReal)

def algebraic_KernelIdeal_ReferenceIdeal_pre_finite_scale [hKernelIdeal : Cert.KernelIdeal.Facts] [hReferenceIdeal : Cert.ReferenceIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_scale : Cert.Pre_finite_scale.Facts),
    quiescent_Kernel (hKernel := hKernel)
    ∧ quiescent_KernelIdeal (hKernelIdeal := hKernelIdeal)
    ∧ quiescent_KernelIdeal_pre_finite_scale (hKernelIdeal := hKernelIdeal) (hPre_finite_scale := hPre_finite_scale)
    ∧ quiescent_ReferenceIdeal (hReferenceIdeal := hReferenceIdeal)
    ∧ quiescent_ReferenceIdeal_pre_finite_scale (hReferenceIdeal := hReferenceIdeal) (hPre_finite_scale := hPre_finite_scale)
    ∧ preserves_Kernel_KernelIdeal
    ∧ algebraic_KernelIdeal_ReferenceIdeal_pre_finite_scale (hKernelIdeal := hKernelIdeal) (hReferenceIdeal := hReferenceIdeal) (hPre_finite_scale := hPre_finite_scale)
-- ==== Pre_finite_scale.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S1x1024x32x64 .fp8e4m3) (main_arg1 : FVec F S32 .f32) (main_arg2 : FVec F S1x1024x4x64 .fp8e4m3) (main_arg3 : FVec F S4 .f32) (main_arg4 : FVec F S1x1024x4x64 .fp8e4m3) (main_arg5 : FVec F S4 .f32) (main_arg6 : FVec F S1x1024x32x64 .bf16) (main_arg7 : FVec F S1x32x1024 .f32) (main_arg8 : FVec F S1x1024x32x64 .fp8e5m2) (main_arg9 : FVec F S1x1024 .f32) : IVec S1x1024 1 :=
  let main_cst : FVec F S_ .f32 := constant S_ .f32 0x00000000#32
  let main_v0 : FVec F S1x1024 .f32 := broadcastInDim S1x1024 ![] bcast_S_S1x1024 main_cst
  let main_v1 : IVec S1x1024 1 := cmpf .oge main_arg9 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg9 main_v2
  let main_v4 : IVec S1x1024 1 := andi main_v1 main_v3
  main_v4
-- ==== Kernel.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024 : Shape := ⟨2, ![1, 1024]⟩
abbrev S1x32x64x1024 : Shape := ⟨4, ![1, 32, 64, 1024]⟩
abbrev S8x4x64x1024 : Shape := ⟨4, ![8, 4, 64, 1024]⟩
abbrev S1x4x64x1024 : Shape := ⟨4, ![1, 4, 64, 1024]⟩
abbrev S4x64x1024 : Shape := ⟨3, ![4, 64, 1024]⟩
abbrev S8x4x1x1024 : Shape := ⟨4, ![8, 4, 1, 1024]⟩
abbrev S2x1x64x1024 : Shape := ⟨4, ![2, 1, 64, 1024]⟩
abbrev S1x64x1024 : Shape := ⟨3, ![1, 64, 1024]⟩
abbrev S2x1x1x1024 : Shape := ⟨4, ![2, 1, 1, 1024]⟩
abbrev S1024x64 : Shape := ⟨2, ![1024, 64]⟩
abbrev S64x1024 : Shape := ⟨2, ![64, 1024]⟩
abbrev S2x64x1024 : Shape := ⟨3, ![2, 64, 1024]⟩
abbrev S2x1x1024 : Shape := ⟨3, ![2, 1, 1024]⟩
abbrev S1 : Shape := ⟨1, ![1]⟩
abbrev S256x256 : Shape := ⟨2, ![256, 256]⟩
abbrev S1x1x64x256 : Shape := ⟨4, ![1, 1, 64, 256]⟩
abbrev S64x256 : Shape := ⟨2, ![64, 256]⟩
abbrev S1x64x256 : Shape := ⟨3, ![1, 64, 256]⟩
abbrev S1x256 : Shape := ⟨2, ![1, 256]⟩
abbrev S1x1 : Shape := ⟨2, ![1, 1]⟩
abbrev S1x1x1x256 : Shape := ⟨4, ![1, 1, 1, 256]⟩
abbrev S1x1x256 : Shape := ⟨3, ![1, 1, 256]⟩
abbrev S256 : Shape := ⟨1, ![256]⟩
abbrev S256x64 : Shape := ⟨2, ![256, 64]⟩

abbrev nBuf : Space → Nat
  | .hbm => 24
  | .vmem => 30
  | .smem => 3
  | _ => 0

abbrev bufTy : (tb : Table) → Fin (tcTables nBuf tb) → BufTy
  | .hbm, ⟨0, _⟩ => ⟨S1x1024x32x64, .fp8e4m3⟩
  | .hbm, ⟨1, _⟩ => ⟨S32, .f32⟩
  | .hbm, ⟨2, _⟩ => ⟨S1x1024x4x64, .fp8e4m3⟩
  | .hbm, ⟨3, _⟩ => ⟨S4, .f32⟩
  | .hbm, ⟨4, _⟩ => ⟨S1x1024x4x64, .fp8e4m3⟩
  | .hbm, ⟨5, _⟩ => ⟨S4, .f32⟩
  | .hbm, ⟨6, _⟩ => ⟨S1x1024x32x64, .bf16⟩
  | .hbm, ⟨7, _⟩ => ⟨S1x32x1024, .f32⟩
  | .hbm, ⟨8, _⟩ => ⟨S1x1024x32x64, .fp8e5m2⟩
  | .hbm, ⟨9, _⟩ => ⟨S1x1024, .f32⟩
  | .hbm, ⟨10, _⟩ => ⟨S1x32x64x1024, .fp8e4m3⟩
  | .hbm, ⟨11, _⟩ => ⟨S8x4x64x1024, .fp8e4m3⟩
  | .hbm, ⟨12, _⟩ => ⟨S1x32x64x1024, .fp8e5m2⟩
  | .hbm, ⟨13, _⟩ => ⟨S8x4x64x1024, .fp8e5m2⟩
  | .hbm, ⟨14, _⟩ => ⟨S1x32x64x1024, .bf16⟩
  | .hbm, ⟨15, _⟩ => ⟨S8x4x64x1024, .bf16⟩
  | .hbm, ⟨16, _⟩ => ⟨S1x4x64x1024, .fp8e4m3⟩
  | .hbm, ⟨17, _⟩ => ⟨S4x64x1024, .fp8e4m3⟩
  | .hbm, ⟨18, _⟩ => ⟨S1x4x64x1024, .fp8e4m3⟩
  | .hbm, ⟨19, _⟩ => ⟨S4x64x1024, .fp8e4m3⟩
  | .hbm, ⟨20, _⟩ => ⟨S8x4x1x1024, .f32⟩
  | .hbm, ⟨21, _⟩ => ⟨S8x4x64x1024, .bf16⟩
  | .hbm, ⟨22, _⟩ => ⟨S4x64x1024, .bf16⟩
  | .hbm, ⟨23, _⟩ => ⟨S4x64x1024, .bf16⟩
  | .local _ .vmem, ⟨0, _⟩ => ⟨S2x1x64x1024, .fp8e4m3⟩
  | .local _ .vmem, ⟨1, _⟩ => ⟨S2x1x64x1024, .fp8e4m3⟩
  | .local _ .vmem, ⟨2, _⟩ => ⟨S1x64x1024, .fp8e4m3⟩
  | .local _ .vmem, ⟨3, _⟩ => ⟨S1x64x1024, .fp8e4m3⟩
  | .local _ .vmem, ⟨4, _⟩ => ⟨S1x64x1024, .fp8e4m3⟩
  | .local _ .vmem, ⟨5, _⟩ => ⟨S1x64x1024, .fp8e4m3⟩
  | .local _ .vmem, ⟨6, _⟩ => ⟨S2x1x64x1024, .bf16⟩
  | .local _ .vmem, ⟨7, _⟩ => ⟨S2x1x64x1024, .bf16⟩
  | .local _ .vmem, ⟨8, _⟩ => ⟨S2x1x1x1024, .f32⟩
  | .local _ .vmem, ⟨9, _⟩ => ⟨S2x1x1x1024, .f32⟩
  | .local _ .vmem, ⟨10, _⟩ => ⟨S2x1x64x1024, .fp8e5m2⟩
  | .local _ .vmem, ⟨11, _⟩ => ⟨S2x1x64x1024, .fp8e5m2⟩
  | .local _ .vmem, ⟨12, _⟩ => ⟨S1x1024, .f32⟩
  | .local _ .vmem, ⟨13, _⟩ => ⟨S2x1x64x1024, .bf16⟩
  | .local _ .vmem, ⟨14, _⟩ => ⟨S2x1x64x1024, .bf16⟩
  | .local _ .vmem, ⟨15, _⟩ => ⟨S1x64x1024, .bf16⟩
  | .local _ .vmem, ⟨16, _⟩ => ⟨S1x64x1024, .bf16⟩
  | .local _ .vmem, ⟨17, _⟩ => ⟨S1x64x1024, .bf16⟩
  | .local _ .vmem, ⟨18, _⟩ => ⟨S1x64x1024, .bf16⟩
  | .local _ .vmem, ⟨19, _⟩ => ⟨S1024x64, .fp8e4m3⟩
  | .local _ .vmem, ⟨20, _⟩ => ⟨S64x1024, .bf16⟩
  | .local _ .vmem, ⟨21, _⟩ => ⟨S1024x64, .bf16⟩
  | .local _ .vmem, ⟨22, _⟩ => ⟨S2x64x1024, .bf16⟩
  | .local _ .vmem, ⟨23, _⟩ => ⟨S2x64x1024, .bf16⟩
  | .local _ .vmem, ⟨24, _⟩ => ⟨S2x64x1024, .bf16⟩
  | .local _ .vmem, ⟨25, _⟩ => ⟨S2x1x1024, .f32⟩
  | .local _ .vmem, ⟨26, _⟩ => ⟨S2x1x1024, .f32⟩
  | .local _ .vmem, ⟨27, _⟩ => ⟨S1x1024, .f32⟩
  | .local _ .vmem, ⟨28, _⟩ => ⟨S64x1024, .f32⟩
  | .local _ .vmem, ⟨29, _⟩ => ⟨S64x1024, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S1x1024x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 4], ![false, false]⟩

def k0_off1 (i : grid0.Coords) : Fin 1 → Nat :=
  let arg0 : BitVec 32 := BitVec.ofNat 32 (i 0).val
  let v3 : Index := Scalar.indexCast arg0
  ![v3.toNat]
def k0_off2 (i : grid0.Coords) (c0_i32_4 : BitVec 32) : Fin 1 → Nat :=
  let arg1 : BitVec 32 := BitVec.ofNat 32 (i 1).val
  let c2_i32 : BitVec 32 := 2#32
  let v17 : BitVec 32 := Scalar.muli arg1 c2_i32
  let v18 : BitVec 32 := Scalar.addi v17 c0_i32_4
  let c4_i32 : BitVec 32 := 4#32
  let v19 : BitVec 32 := Scalar.muli v18 c4_i32
  let arg0 : BitVec 32 := BitVec.ofNat 32 (i 0).val
  let v20 : BitVec 32 := Scalar.addi v19 arg0
  let v21 : Index := Scalar.indexCast v20
  ![v21.toNat]
def k0_cond2 (i : grid0.Coords) : BitVec 1 :=
  let arg1 : BitVec 32 := BitVec.ofNat 32 (i 1).val
  let c3_i32 : BitVec 32 := 3#32
  let v1305 : BitVec 1 := Scalar.cmpi .eq arg1 c3_i32
  let v1306 : BitVec 32 := Scalar.extui v1305
  let c0_i32_1116 : BitVec 32 := 0#32
  let v1307 : BitVec 1 := Scalar.cmpi .ne v1306 c0_i32_1116
  v1307

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x64x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x64x1024 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | "sm_log2e" => some (((1 / 8) * (Real.log 2)⁻¹ : ℝ) : EReal)
  | _ => none
-- ==== ReferenceIdeal.lean ====
abbrev S1x1024x32x64 : Shape := ⟨4, ![1, 1024, 32, 64]⟩
abbrev S32 : Shape := ⟨1, ![32]⟩
abbrev S1x1024x4x64 : Shape := ⟨4, ![1, 1024, 4, 64]⟩
abbrev S4 : Shape := ⟨1, ![4]⟩
abbrev S1x32x1024 : Shape := ⟨3, ![1, 32, 1024]⟩
abbrev S1x1024 : Shape := ⟨2, ![1, 1024]⟩
abbrev S1x1024x1x1 : Shape := ⟨4, ![1, 1024, 1, 1]⟩
abbrev S1x8x4x1024 : Shape := ⟨4, ![1, 8, 4, 1024]⟩
abbrev S1x1x32x1 : Shape := ⟨4, ![1, 1, 32, 1]⟩
abbrev S1x1024x8x4x64 : Shape := ⟨5, ![1, 1024, 8, 4, 64]⟩
abbrev S1x1024x1x1x1 : Shape := ⟨5, ![1, 1024, 1, 1, 1]⟩
abbrev S8x4 : Shape := ⟨2, ![8, 4]⟩
abbrev S1x4x1024x1024x8 : Shape := ⟨5, ![1, 4, 1024, 1024, 8]⟩
abbrev S1x8x4x1024x1024 : Shape := ⟨5, ![1, 8, 4, 1024, 1024]⟩
abbrev S1x8x4x1x1 : Shape := ⟨5, ![1, 8, 4, 1, 1]⟩
abbrev S1x1x4x1x1 : Shape := ⟨5, ![1, 1, 4, 1, 1]⟩
abbrev S_ : Shape := ⟨0, ![]⟩
abbrev S1024 : Shape := ⟨1, ![1024]⟩
abbrev S1024x1 : Shape := ⟨2, ![1024, 1]⟩
abbrev S1024x1024 : Shape := ⟨2, ![1024, 1024]⟩
abbrev S1x8x4x1024x1 : Shape := ⟨5, ![1, 8, 4, 1024, 1]⟩
abbrev S1x1x1x1024x1 : Shape := ⟨5, ![1, 1, 1, 1024, 1]⟩
abbrev S1x4x64x8x1024 : Shape := ⟨5, ![1, 4, 64, 8, 1024]⟩
abbrev S1x1x1x4x1 : Shape := ⟨5, ![1, 1, 1, 4, 1]⟩
abbrev S1x4x64x1024 : Shape := ⟨4, ![1, 4, 64, 1024]⟩
abbrev S1024x8x4x64 : Shape := ⟨4, ![1024, 8, 4, 64]⟩
abbrev S8x4x64x1024 : Shape := ⟨4, ![8, 4, 64, 1024]⟩
abbrev S1024x4x64 : Shape := ⟨3, ![1024, 4, 64]⟩
abbrev S4x64x1024 : Shape := ⟨3, ![4, 64, 1024]⟩

abbrev nBuf : Space → Nat
  | .hbm => 99
  | .vmem => 8
  | .smem => 0
  | _ => 0

abbrev bufTy : (tb : Table) → Fin (tcTables nBuf tb) → BufTy
  | .hbm, ⟨0, _⟩ => ⟨S1x1024x32x64, .fp8e4m3⟩
  | .hbm, ⟨1, _⟩ => ⟨S32, .f32⟩
  | .hbm, ⟨2, _⟩ => ⟨S1x1024x4x64, .fp8e4m3⟩
  | .hbm, ⟨3, _⟩ => ⟨S4, .f32⟩
  | .hbm, ⟨4, _⟩ => ⟨S1x1024x4x64, .fp8e4m3⟩
  | .hbm, ⟨5, _⟩ => ⟨S4, .f32⟩
  | .hbm, ⟨6, _⟩ => ⟨S1x1024x32x64, .bf16⟩
  | .hbm, ⟨7, _⟩ => ⟨S1x32x1024, .f32⟩
  | .hbm, ⟨8, _⟩ => ⟨S1x1024x32x64, .fp8e5m2⟩
  | .hbm, ⟨9, _⟩ => ⟨S1x1024, .f32⟩
  | .hbm, ⟨10, _⟩ => ⟨S1x1024x32x64, .bf16⟩
  | .hbm, ⟨11, _⟩ => ⟨S1x1024x4x64, .bf16⟩
  | .hbm, ⟨12, _⟩ => ⟨S1x1024x4x64, .bf16⟩
  | .hbm, ⟨13, _⟩ => ⟨S1x1024x32x64, .bf16⟩
  | .hbm, ⟨14, _⟩ => ⟨S1x1024x32x64, .f32⟩
  | .hbm, ⟨15, _⟩ => ⟨S1x1024x1x1, .f32⟩
  | .hbm, ⟨16, _⟩ => ⟨S1x1024x32x64, .f32⟩
  | .hbm, ⟨17, _⟩ => ⟨S1x1024x32x64, .f32⟩
  | .hbm, ⟨18, _⟩ => ⟨S1x1024x32x64, .f32⟩
  | .hbm, ⟨19, _⟩ => ⟨S1x32x1024, .f32⟩
  | .hbm, ⟨20, _⟩ => ⟨S1x8x4x1024, .f32⟩
  | .hbm, ⟨21, _⟩ => ⟨S32, .bf16⟩
  | .hbm, ⟨22, _⟩ => ⟨S1x1x32x1, .bf16⟩
  | .hbm, ⟨23, _⟩ => ⟨S1x1024x32x64, .bf16⟩
  | .hbm, ⟨24, _⟩ => ⟨S1x1024x32x64, .bf16⟩
  | .hbm, ⟨25, _⟩ => ⟨S1x1024x8x4x64, .bf16⟩
  | .hbm, ⟨26, _⟩ => ⟨S1x1024x8x4x64, .bf16⟩
  | .hbm, ⟨27, _⟩ => ⟨S1x1024x8x4x64, .bf16⟩
  | .hbm, ⟨28, _⟩ => ⟨S1x1024, .bf16⟩
  | .hbm, ⟨29, _⟩ => ⟨S1x1024x1x1x1, .bf16⟩
  | .hbm, ⟨30, _⟩ => ⟨S1x1024x8x4x64, .bf16⟩
  | .hbm, ⟨31, _⟩ => ⟨S1x1024x8x4x64, .bf16⟩
  | .hbm, ⟨32, _⟩ => ⟨S8x4, .f32⟩
  | .hbm, ⟨33, _⟩ => ⟨S1x8x4x1024, .f32⟩
  | .hbm, ⟨34, _⟩ => ⟨S1x4x1024x1024x8, .f32⟩
  | .hbm, ⟨35, _⟩ => ⟨S1x8x4x1024x1024, .f32⟩
  | .hbm, ⟨36, _⟩ => ⟨S1x8x4x1x1, .f32⟩
  | .hbm, ⟨37, _⟩ => ⟨S1x8x4x1024x1024, .f32⟩
  | .hbm, ⟨38, _⟩ => ⟨S1x8x4x1024x1024, .f32⟩
  | .hbm, ⟨39, _⟩ => ⟨S1x1x4x1x1, .f32⟩
  | .hbm, ⟨40, _⟩ => ⟨S1x8x4x1024x1024, .f32⟩
  | .hbm, ⟨41, _⟩ => ⟨S1x8x4x1024x1024, .f32⟩
  | .hbm, ⟨42, _⟩ => ⟨S_, .f32⟩
  | .hbm, ⟨43, _⟩ => ⟨S1x8x4x1024x1024, .f32⟩
  | .hbm, ⟨44, _⟩ => ⟨S1x8x4x1024x1024, .f32⟩
  | .hbm, ⟨45, _⟩ => ⟨S1024, .i32⟩
  | .hbm, ⟨46, _⟩ => ⟨S1x1024, .i32⟩
  | .hbm, ⟨47, _⟩ => ⟨S1024x1, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S_, .f32⟩
  | .hbm, ⟨52, _⟩ => ⟨S_, .f32⟩
  | .hbm, ⟨53, _⟩ => ⟨S1x8x4x1024x1024, .i1⟩
  | .hbm, ⟨54, _⟩ => ⟨S1x8x4x1024x1024, .f32⟩
  | .hbm, ⟨55, _⟩ => ⟨S1x8x4x1024x1024, .f32⟩
  | .hbm, ⟨56, _⟩ => ⟨S1x8x4x1024x1, .f32⟩
  | .hbm, ⟨57, _⟩ => ⟨S1x8x4x1024x1024, .f32⟩
  | .hbm, ⟨58, _⟩ => ⟨S1x8x4x1024x1024, .f32⟩
  | .hbm, ⟨59, _⟩ => ⟨S1x8x4x1024x1024, .f32⟩
  | .hbm, ⟨60, _⟩ => ⟨S1x4x1024x1024x8, .f32⟩
  | .hbm, ⟨61, _⟩ => ⟨S1x8x4x1024x1024, .f32⟩
  | .hbm, ⟨62, _⟩ => ⟨S1x1x1x1024x1, .f32⟩
  | .hbm, ⟨63, _⟩ => ⟨S1x8x4x1024x1024, .f32⟩
  | .hbm, ⟨64, _⟩ => ⟨S1x8x4x1024x1024, .f32⟩
  | .hbm, ⟨65, _⟩ => ⟨S1x1x4x1x1, .f32⟩
  | .hbm, ⟨66, _⟩ => ⟨S1x8x4x1024x1024, .f32⟩
  | .hbm, ⟨67, _⟩ => ⟨S1x8x4x1024x1024, .f32⟩
  | .hbm, ⟨68, _⟩ => ⟨S1x8x4x1024x1, .f32⟩
  | .hbm, ⟨69, _⟩ => ⟨S1x8x4x1024x1024, .f32⟩
  | .hbm, ⟨70, _⟩ => ⟨S1x8x4x1024x1024, .f32⟩
  | .hbm, ⟨71, _⟩ => ⟨S1x8x4x1024x1024, .f32⟩
  | .hbm, ⟨72, _⟩ => ⟨S1x8x4x1024x1024, .bf16⟩
  | .hbm, ⟨73, _⟩ => ⟨S1x4x64x8x1024, .f32⟩
  | .hbm, ⟨74, _⟩ => ⟨S1x1024x8x4x64, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S1x1x1x4x1, .f32⟩
  | .hbm, ⟨79, _⟩ => ⟨S1x1024x8x4x64, .f32⟩
  | .hbm, ⟨80, _⟩ => ⟨S1x1024x8x4x64, .f32⟩
  | .hbm, ⟨81, _⟩ => ⟨S1x1024x8x4x64, .bf16⟩
  | .hbm, ⟨82, _⟩ => ⟨S1x8x4x1024x1024, .bf16⟩
  | .hbm, ⟨83, _⟩ => ⟨S1x4x64x1024, .f32⟩
  | .hbm, ⟨84, _⟩ => ⟨S1x1024x4x64, .f32⟩
  | .hbm, ⟨85, _⟩ => ⟨S_, .f32⟩
  | .hbm, ⟨86, _⟩ => ⟨S1x1024x4x64, .f32⟩
  | .hbm, ⟨87, _⟩ => ⟨S1x1024x4x64, .f32⟩
  | .hbm, ⟨88, _⟩ => ⟨S1x8x4x1024x1024, .bf16⟩
  | .hbm, ⟨89, _⟩ => ⟨S1x4x64x1024, .f32⟩
  | .hbm, ⟨90, _⟩ => ⟨S1x1024x4x64, .f32⟩
  | .hbm, ⟨91, _⟩ => ⟨S1x1024x4x64, .bf16⟩
  | .hbm, ⟨92, _⟩ => ⟨S1x1024x4x64, .bf16⟩
  | .hbm, ⟨93, _⟩ => ⟨S1024x8x4x64, .bf16⟩
  | .hbm, ⟨94, _⟩ => ⟨S8x4x64x1024, .bf16⟩
  | .hbm, ⟨95, _⟩ => ⟨S1024x4x64, .bf16⟩
  | .hbm, ⟨96, _⟩ => ⟨S4x64x1024, .bf16⟩
  | .hbm, ⟨97, _⟩ => ⟨S1024x4x64, .bf16⟩
  | .hbm, ⟨98, _⟩ => ⟨S4x64x1024, .bf16⟩
  | .local _ .vmem, ⟨0, _⟩ => ⟨S1x1024x32x64, .fp8e4m3⟩
  | .local _ .vmem, ⟨1, _⟩ => ⟨S1x1024x4x64, .fp8e4m3⟩
  | .local _ .vmem, ⟨2, _⟩ => ⟨S1x1024x4x64, .fp8e4m3⟩
  | .local _ .vmem, ⟨3, _⟩ => ⟨S1x1024x32x64, .fp8e5m2⟩
  | .local _ .vmem, ⟨4, _⟩ => ⟨S1x1024x32x64, .bf16⟩
  | .local _ .vmem, ⟨5, _⟩ => ⟨S1x1024x4x64, .bf16⟩
  | .local _ .vmem, ⟨6, _⟩ => ⟨S1x1024x4x64, .bf16⟩
  | .local _ .vmem, ⟨7, _⟩ => ⟨S1x1024x32x64, .bf16⟩
  | _, _ => ⟨S1x1024x32x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_1 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_2 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x1024x32x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x4x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x4x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x32x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x32x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x4x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x4x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Model.lean ====
/- One grid step of the kernel written once: the operands a step loads, the blocks it prepares in scratch, the ten
   tiles it walks per head, and the lists of stores it leaves. Nothing is proved here; the generated runs are shown
   equal to these terms in `Bridge`. -/
module

public import proofs.«01_k».proof.Proof.Gen.KernelIdeal.Skeleton
public import Idealize.ShloMosaic.Lib.Pipeline.FrameBody

@[expose] public section

set_option maxRecDepth 16384

noncomputable section

namespace Cert.Own

open Cert.KernelIdeal Cert.KernelIdeal.Gen
open Idealize.ShloMosaic Idealize.SL.Sem

variable {F : FTy → Type} [FloatOps F] [Named F]

/-! ## Rectangles: block `i` of 256 positions, of head `h` of the step's two -/

theorem inb64 (i : Fin 4) : ∀ a, (![0, 256 * i.val] : Fin 2 → ℕ) a + S64x256.size a ≤ S64x1024.size a := by
  intro a; have := i.isLt; match a with
  | ⟨0, _⟩ => exact Nat.le_refl _
  | ⟨1, _⟩ => show 256 * i.val + 256 ≤ 1024; omega

theorem inbRow (i : Fin 4) : ∀ a, (![256 * i.val, 0] : Fin 2 → ℕ) a + S256x64.size a ≤ S1024x64.size a := by
  intro a; have := i.isLt; match a with
  | ⟨0, _⟩ => show 256 * i.val + 256 ≤ 1024; omega
  | ⟨1, _⟩ => exact Nat.le_refl _

theorem inbLane (i : Fin 4) : ∀ a, (![0, 256 * i.val] : Fin 2 → ℕ) a + S1x256.size a ≤ S1x1024.size a := by
  intro a; have := i.isLt; match a with
  | ⟨0, _⟩ => exact Nat.le_refl _
  | ⟨1, _⟩ => show 256 * i.val + 256 ≤ 1024; omega

theorem inbH64 (h : Fin 2) (i : Fin 4) : ∀ a, (![h.val, 0, 256 * i.val] : Fin 3 → ℕ) a + S1x64x256.size a ≤ S2x64x1024.size a := by
  intro a; have := i.isLt; have := h.isLt; match a with
  | ⟨0, _⟩ => show h.val + 1 ≤ 2; omega
  | ⟨1, _⟩ => exact Nat.le_refl _
  | ⟨2, _⟩ => show 256 * i.val + 256 ≤ 1024; omega

theorem inbH1 (h : Fin 2) (i : Fin 4) : ∀ a, (![h.val, 0, 256 * i.val] : Fin 3 → ℕ) a + S1x1x256.size a ≤ S2x1x1024.size a := by
  intro a; have := i.isLt; have := h.isLt; match a with
  | ⟨0, _⟩ => show h.val + 1 ≤ 2; omega
  | ⟨1, _⟩ => exact Nat.le_refl _
  | ⟨2, _⟩ => show 256 * i.val + 256 ≤ 1024; omega

theorem inbB64 (h : Fin 2) (i : Fin 4) : ∀ a, (![h.val, 0, 0, 256 * i.val] : Fin 4 → ℕ) a + S1x1x64x256.size a ≤ S2x1x64x1024.size a := by
  intro a; have := i.isLt; have := h.isLt; match a with
  | ⟨0, _⟩ => show h.val + 1 ≤ 2; omega
  | ⟨1, _⟩ => exact Nat.le_refl _
  | ⟨2, _⟩ => exact Nat.le_refl _
  | ⟨3, _⟩ => show 256 * i.val + 256 ≤ 1024; omega

theorem inbB1 (h : Fin 2) (i : Fin 4) : ∀ a, (![h.val, 0, 0, 256 * i.val] : Fin 4 → ℕ) a + S1x1x1x256.size a ≤ S2x1x1x1024.size a := by
  intro a; have := i.isLt; have := h.isLt; match a with
  | ⟨0, _⟩ => show h.val + 1 ≤ 2; omega
  | ⟨1, _⟩ => exact Nat.le_refl _
  | ⟨2, _⟩ => exact Nat.le_refl _
  | ⟨3, _⟩ => show 256 * i.val + 256 ≤ 1024; omega

/-- Columns `256·i …` of a `[64, 1024]` array. -/
@[implicit_reducible] def R64 (i : Fin 4) : Rect S64x1024 := Rect.unit (s := S64x1024) ![0, 256 * i.val] S64x256.size (inb64 i)
/-- Rows `256·i …` of a `[1024, 64]` array. -/
@[implicit_reducible] def RRow (i : Fin 4) : Rect S1024x64 := Rect.unit (s := S1024x64) ![256 * i.val, 0] S256x64.size (inbRow i)
/-- Positions `256·i …` of a row. -/
@[implicit_reducible] def RLane (i : Fin 4) : Rect S1x1024 := Rect.unit (s := S1x1024) ![0, 256 * i.val] S1x256.size (inbLane i)
/-- Columns `256·i …` of head `h` in a two-head scratch. -/
@[implicit_reducible] def RH64 (h : Fin 2) (i : Fin 4) : Rect S2x64x1024 := Rect.unit (s := S2x64x1024) ![h.val, 0, 256 * i.val] S1x64x256.size (inbH64 h i)
/-- Positions `256·i …` of head `h` in a two-head row scratch. -/
@[implicit_reducible] def RH1 (h : Fin 2) (i : Fin 4) : Rect S2x1x1024 := Rect.unit (s := S2x1x1024) ![h.val, 0, 256 * i.val] S1x1x256.size (inbH1 h i)
/-- Columns `256·i …` of head `h` in a two-head block. -/
@[implicit_reducible] def RB64 (h : Fin 2) (i : Fin 4) : Rect S2x1x64x1024 := Rect.unit (s := S2x1x64x1024) ![h.val, 0, 0, 256 * i.val] S1x1x64x256.size (inbB64 h i)
/-- Positions `256·i …` of head `h` in a two-head row block. -/
@[implicit_reducible] def RB1 (h : Fin 2) (i : Fin 4) : Rect S2x1x1x1024 := Rect.unit (s := S2x1x1x1024) ![h.val, 0, 0, 256 * i.val] S1x1x1x256.size (inbB1 h i)

/-! ## The operands of one step -/

/-- What a step loads: the scalars, the three carried key/value arrays by tile, its blocks by head and block of
    positions, and the scratch buffers its prepared blocks go through. -/
structure Opnds (F : FTy → Type) where
  kc : F .f32
  vc : F .f32
  qc : Fin 2 → F .f32
  kn : Fin 4 → Vec F S256x64 .fp8e4m3
  kt : Fin 4 → Vec F S64x256 .bf16
  vn : Fin 4 → Vec F S256x64 .bf16
  q : Fin 2 → Fin 4 → Vec F S1x1x64x256 .fp8e4m3
  dO : Fin 2 → Fin 4 → Vec F S1x1x64x256 .fp8e5m2
  o : Fin 2 → Fin 4 → Vec F S1x1x64x256 .bf16
  lse : Fin 2 → Fin 4 → Vec F S1x1x1x256 .f32
  dsc : Vec F S1x1024 .f32
  vdo : View sig .tc .vmem S2x64x1024 .bf16
  vdw : View sig .tc .vmem S2x64x1024 .bf16
  vqw : View sig .tc .vmem S2x64x1024 .bf16
  vlse : View sig .tc .vmem S2x1x1024 .f32
  vdel : View sig .tc .vmem S2x1x1024 .f32
  vdps : View sig .tc .vmem S1x1024 .f32

theorem lane_slices : ∀ i : Fin 4, S1x1024.Slices ![0, 256 * i.val] S1x256 := by decide

namespace Opnds

variable (p : Opnds F)

/-! ### Prepared blocks -/

/-- A block of the output gradient, converted. -/
def doBlk (h : Fin 2) (i : Fin 4) : FVec F S64x256 .bf16 :=
  extf .bf16 (shapeCast S64x256 (p.dO h i) shapeCasts_S1x1x64x256_S64x256) bitsLt_fp8e5m2_bf16
/-- It, as stored. -/
def doPay (h : Fin 2) (i : Fin 4) : FVec F S1x64x256 .bf16 := shapeCast S1x64x256 (p.doBlk h i) shapeCasts_S64x256_S1x64x256
/-- It times its row scales. -/
def dwPay (h : Fin 2) (i : Fin 4) : FVec F S1x64x256 .bf16 :=
  shapeCast S1x64x256 (mulf (p.doBlk h i) (broadcastTo S64x256
    (extractStridedSlice S1x256 ![0, 256 * i.val] (truncf .bf16 p.dsc bitsLt_bf16_f32) (lane_slices i)) broadcasts_S1x256_S64x256))
    shapeCasts_S64x256_S1x64x256
/-- A block of the queries times the head's scale. -/
def qwPay (h : Fin 2) (i : Fin 4) : FVec F S1x64x256 .bf16 :=
  shapeCast S1x64x256 (mulf (extf .bf16 (shapeCast S64x256 (p.q h i) shapeCasts_S1x1x64x256_S64x256) bitsLt_fp8e4m3_bf16)
    (broadcastTo S64x256 (truncf .bf16 (broadcast S1x1 (p.qc h) : FVec F S1x1 .f32) bitsLt_bf16_f32) broadcasts_S1x1_S64x256))
    shapeCasts_S64x256_S1x64x256
/-- A block of the row log-sum-exps, in base two. -/
def lsePay (h : Fin 2) (i : Fin 4) : FVec F S1x1x256 .f32 :=
  shapeCast S1x1x256 (mulf (shapeCast S1x256 (p.lse h i) shapeCasts_S1x1x1x256_S1x256 : FVec F S1x256 .f32)
    (broadcast S1x256 (Named.named κ "log2e" 0x3FB8AA3B#32 : F .f32))) shapeCasts_S1x256_S1x1x256
/-- A block of the row sums. -/
def delPay (h : Fin 2) (i : Fin 4) : FVec F S1x1x256 .f32 :=
  shapeCast S1x1x256 (mulf (shapeCast S1x256 (multiReduction .add [0] S256
      (mulf (extf .f32 (shapeCast S64x256 (p.dO h i) shapeCasts_S1x1x64x256_S64x256 : FVec F S64x256 .fp8e5m2) bitsLt_fp8e5m2_f32)
        (extf .f32 (shapeCast S64x256 (p.o h i) shapeCasts_S1x1x64x256_S64x256 : FVec F S64x256 .bf16) bitsLt_bf16_f32))
      0x00000000#32 reduces_S64x256_S256 (.inl rfl) rfl) shapeCasts_S256_S1x256 : FVec F S1x256 .f32)
    (extractStridedSlice S1x256 ![0, 256 * i.val] p.dsc (lane_slices i))) shapeCasts_S1x256_S1x1x256
/-- The output gradient's row scales times the value scale. -/
def dpsPay : FVec F S1x1024 .f32 := shapeCast S1x1024 (mulf p.dsc (broadcast S1x1024 p.vc)) shapeCasts_S1x1024_S1x1024

/-- The (head, block) pairs prepared for the first head, last first. -/
abbrev early : List (Fin 2 × Fin 4) := [(0, 3), (0, 2), (0, 1), (0, 0)]
/-- The pairs prepared for both heads, last first. -/
abbrev late : List (Fin 2 × Fin 4) := [(1, 3), (1, 2), (1, 1), (1, 0), (0, 3), (0, 2), (0, 1), (0, 0)]
/-- The pairs prepared when head `h`'s product with the output gradient is taken. -/
abbrev at1 (h : Fin 2) : List (Fin 2 × Fin 4) := match h with | 0 => early | 1 => late
/-- The pairs prepared when tile `(h, i, j)` is accumulated: the first head's last two tiles come after the second
    head's blocks. -/
abbrev at2 (h : Fin 2) (i j : Fin 4) : List (Fin 2 × Fin 4) := match h, i, j with
  | 0, 3, 2 => late
  | 0, 3, 3 => late
  | 0, _, _ => early
  | 1, _, _ => late

/-- The stores of prepared `[64, 256]` blocks. -/
def st64 (pay : Fin 2 → Fin 4 → FVec F S1x64x256 .bf16) (l : List (Fin 2 × Fin 4)) : List (View.Piece (Elt F) S2x64x1024 .bf16) :=
  l.map fun a => ⟨RH64 a.1 a.2, pay a.1 a.2⟩
/-- The stores of prepared rows. -/
def st1 (pay : Fin 2 → Fin 4 → FVec F S1x1x256 .f32) (l : List (Fin 2 × Fin 4)) : List (View.Piece (Elt F) S2x1x1024 .f32) :=
  l.map fun a => ⟨RH1 a.1 a.2, pay a.1 a.2⟩

/-! ### Prepared blocks read back -/

def doS (h : Fin 2) (i : Fin 4) : Vec F S1x64x256 .bf16 := p.vdo.readCov (st64 p.doPay (at1 h)) (RH64 h i).toLoadRect
def dwS (h : Fin 2) (i j : Fin 4) : Vec F S1x64x256 .bf16 := p.vdw.readCov (st64 p.dwPay (at2 h i j)) (RH64 h i).toLoadRect
def qwS (h : Fin 2) (i j : Fin 4) : Vec F S1x64x256 .bf16 := p.vqw.readCov (st64 p.qwPay (at2 h i j)) (RH64 h i).toLoadRect
def lseS (h : Fin 2) (i j : Fin 4) : Vec F S1x1x256 .f32 := p.vlse.readCov (st1 p.lsePay (at2 h i j)) (RH1 h i).toLoadRect
def delS (h : Fin 2) (i j : Fin 4) : Vec F S1x1x256 .f32 := p.vdel.readCov (st1 p.delPay (at2 h i j)) (RH1 h i).toLoadRect
def dpsS (i : Fin 4) : Vec F S1x256 .f32 :=
  p.vdps.readCov [⟨Rect.unit (s := S1x1024) ![0, 0] S1x1024.size (Rect.inb₂ (by decide) (by decide)), p.dpsPay⟩] (RLane i).toLoadRect

/-! ### Tiles -/

/-- The factor on the scores: both scales, the softmax factor and the change of base. -/
def c (h : Fin 2) : F .f32 := Scalar.mulf (Scalar.mulf (p.qc h) p.kc) (Named.named κ "sm_log2e" 0x3E38AA3B#32)
/-- Keys of block `j` against queries of block `i`, rows `j`. -/
def score (h : Fin 2) (i j : Fin 4) : FVec F S256x256 .f32 :=
  matmul dot_S256x64_S64x256_S256x256_1_0_0_1_n_n none (p.kn j) (shapeCast S64x256 (p.q h i) shapeCasts_S1x1x64x256_S64x256)
    (constant S256x256 .f32 0x00000000#32)
/-- Values of block `j` against the output gradient of block `i`. -/
def dprob (h : Fin 2) (i j : Fin 4) : FVec F S256x256 .f32 :=
  matmul dot_S256x64_S64x256_S256x256_1_0_0_1_n_n none (p.vn j) (shapeCast S64x256 (p.doS h i) shapeCasts_S1x64x256_S64x256)
    (constant S256x256 .f32 0x00000000#32)
/-- The exponentials of a tile, before masking. -/
def expo (h : Fin 2) (i j : Fin 4) : FVec F S256x256 .f32 :=
  exp2 (subf (mulf (p.score h i j) (broadcast S256x256 (p.c h)))
    (broadcastTo S256x256 (shapeCast S1x256 (p.lseS h i j) shapeCasts_S1x1x256_S1x256) broadcasts_S1x256_S256x256))
/-- The probabilities of a tile; on the diagonal only keys up to the query count. -/
def prob (h : Fin 2) (i j : Fin 4) : FVec F S256x256 .f32 :=
  if i = j then select k0_pay11 (p.expo h i j) (broadcast S256x256 (Scalar.ofBits .f32 0x00000000#32 : F .f32)) else p.expo h i j
/-- The gradients with respect to a tile's scores. -/
def dscore (h : Fin 2) (i j : Fin 4) : FVec F S256x256 .bf16 :=
  truncf .bf16 (mulf (p.prob h i j) (subf
    (mulf (p.dprob h i j) (broadcastTo S256x256 (p.dpsS i) broadcasts_S1x256_S256x256))
    (broadcastTo S256x256 (shapeCast S1x256 (p.delS h i j) shapeCasts_S1x1x256_S1x256) broadcasts_S1x256_S256x256))) bitsLt_bf16_f32

/-- A block of an accumulator plus a tile's contribution, contracted over the query positions. -/
def upd (acc : Vec F S64x256 .f32) (w : Vec F S1x64x256 .bf16) (t : FVec F S256x256 .bf16) : FVec F S64x256 .f32 :=
  shapeCast S64x256 (addf acc (matmul dot_S64x256_S256x256_S64x256_1_1_0_0_n_n none
    (shapeCast S64x256 w shapeCasts_S1x64x256_S64x256) t (constant S64x256 .f32 0x00000000#32))) shapeCasts_S64x256_S64x256
/-- The update of the value gradient. -/
def dvUpd (h : Fin 2) (i j : Fin 4) (acc : Vec F S64x256 .f32) : FVec F S64x256 .f32 :=
  upd acc (p.dwS h i j) (truncf .bf16 (p.prob h i j) bitsLt_bf16_f32)
/-- The update of the key gradient. -/
def dkUpd (h : Fin 2) (i j : Fin 4) (acc : Vec F S64x256 .f32) : FVec F S64x256 .f32 := upd acc (p.qwS h i j) (p.dscore h i j)

/-- The tiles of a step, last first. -/
abbrev tiles : List (Fin 2 × Fin 4 × Fin 4) :=
  [(1, 3, 3), (1, 3, 2), (1, 3, 1), (1, 3, 0), (1, 2, 2), (1, 2, 1), (1, 2, 0), (1, 1, 1), (1, 1, 0), (1, 0, 0),
   (0, 3, 3), (0, 3, 2), (0, 3, 1), (0, 3, 0), (0, 2, 2), (0, 2, 1), (0, 2, 0), (0, 1, 1), (0, 1, 0), (0, 0, 0)]

/-- The stores of an accumulator over a list of tiles (last first): each replaces block `j` by its update of what `ld`
    loads of that block before it. -/
def stAcc (u : Fin 2 → Fin 4 → Fin 4 → Vec F S64x256 .f32 → FVec F S64x256 .f32)
    (ld : Fin 2 → Fin 4 → Fin 4 → List (View.Piece (Elt F) S64x1024 .f32) → Vec F S64x256 .f32)
    (bot : List (View.Piece (Elt F) S64x1024 .f32)) : List (Fin 2 × Fin 4 × Fin 4) → List (View.Piece (Elt F) S64x1024 .f32)
  | [] => bot
  | a :: l => ⟨R64 a.2.2, u a.1 a.2.1 a.2.2 (ld a.1 a.2.1 a.2.2 (stAcc u ld bot l))⟩ :: stAcc u ld bot l

/-- Every block loaded from the stores before it. -/
def ldAll (v : View sig .tc .vmem S64x1024 .f32) (_h : Fin 2) (_i j : Fin 4) (L : List (View.Piece (Elt F) S64x1024 .f32)) :
    Vec F S64x256 .f32 := v.readCov L (R64 j).toLoadRect
/-- A block met for the first time (the first head's diagonal tile) loaded from what the buffer held before the step. -/
def ldOver (v : View sig .tc .vmem S64x1024 .f32) (f : v.ty.Contents (Elt F)) (h : Fin 2) (i j : Fin 4)
    (L : List (View.Piece (Elt F) S64x1024 .f32)) : Vec F S64x256 .f32 :=
  if h = 0 ∧ i = j then v.readAt (Elt F) (R64 j).toLoadRect f else v.readCov L (R64 j).toLoadRect

/-- The products of keys with score gradients, summed over the first `n` key blocks. -/
def dqAcc (h : Fin 2) (i : Fin 4) : ℕ → FVec F S64x256 .f32
  | 0 => matmul dot_S64x256_S256x256_S64x256_1_0_0_1_n_n none (p.kt 0) (p.dscore h i 0) (constant S64x256 .f32 0x00000000#32)
  | n + 1 => addf (dqAcc h i n) (matmul dot_S64x256_S256x256_S64x256_1_0_0_1_n_n none (p.kt (Fin.ofNat 4 (n + 1)))
      (p.dscore h i (Fin.ofNat 4 (n + 1))) (constant S64x256 .f32 0x00000000#32))
/-- A block of the query gradient. -/
def dqPay (h : Fin 2) (i : Fin 4) : FVec F S1x1x64x256 .bf16 :=
  shapeCast S1x1x64x256 (truncf .bf16 (mulf (p.dqAcc h i i.val)
    (broadcast S64x256 (Scalar.mulf p.kc (Scalar.ofBits .f32 0x3E000000#32) : F .f32))) bitsLt_bf16_f32) shapeCasts_S64x256_S1x1x64x256
/-- The stores of the query gradient. -/
def stDq : List (View.Piece (Elt F) S2x1x64x1024 .bf16) := late.map fun a => ⟨RB64 a.1 a.2, p.dqPay a.1 a.2⟩

end Opnds

end Cert.Own

end
-- ==== Proof.Bridge.lean ====
/- The generated runs of one grid step, shown equal to the terms of `Model`: what each of the three kinds of step leaves
   in the scratch it carries and in its output blocks. The equalities hold by unfolding, over any arithmetic. -/
module

public import proofs.«01_k».proof.Proof.Model
public import proofs.«01_k».proof.Proof.Gen.KernelIdeal.Frame

@[expose] public section

set_option maxRecDepth 16384

noncomputable section

namespace Cert.Own

open Cert.KernelIdeal Cert.KernelIdeal.Gen
open Idealize.ShloMosaic Idealize.SL.Sem

variable {F : FTy → Type} [FloatOps F] [Named F]
variable (c : Dev nD) (i : grid0.Coords)
variable (arg2 : Memref sig .tc .smem S32 .f32) (harg2 : arg2.IsWhole)
variable (arg3 : Memref sig .tc .smem S4 .f32) (harg3 : arg3.IsWhole)
variable (arg4 : Memref sig .tc .smem S4 .f32) (harg4 : arg4.IsWhole)
variable (arg5 : Memref sig .tc .vmem S2x1x64x1024 .fp8e4m3) (harg5 : arg5.IsWhole)
variable (arg6 : Memref sig .tc .vmem S1x64x1024 .fp8e4m3) (harg6 : arg6.IsWhole)
variable (arg7 : Memref sig .tc .vmem S1x64x1024 .fp8e4m3) (harg7 : arg7.IsWhole)
variable (arg8 : Memref sig .tc .vmem S2x1x64x1024 .bf16) (harg8 : arg8.IsWhole)
variable (arg9 : Memref sig .tc .vmem S2x1x1x1024 .f32) (harg9 : arg9.IsWhole)
variable (arg10 : Memref sig .tc .vmem S2x1x64x1024 .fp8e5m2) (harg10 : arg10.IsWhole)
variable (arg11 : Memref sig .tc .vmem S1x1024 .f32) (harg11 : arg11.IsWhole)
variable (arg12 : Memref sig .tc .vmem S2x1x64x1024 .bf16) (harg12 : arg12.IsWhole)
variable (arg13 : Memref sig .tc .vmem S1x64x1024 .bf16) (harg13 : arg13.IsWhole)
variable (arg14 : Memref sig .tc .vmem S1x64x1024 .bf16) (harg14 : arg14.IsWhole)
variable (arg15 : Memref sig .tc .vmem S1024x64 .fp8e4m3) (harg15 : arg15.IsWhole)
variable (arg16 : Memref sig .tc .vmem S64x1024 .bf16) (harg16 : arg16.IsWhole)
variable (arg17 : Memref sig .tc .vmem S1024x64 .bf16) (harg17 : arg17.IsWhole)
variable (arg18 : Memref sig .tc .vmem S2x64x1024 .bf16) (harg18 : arg18.IsWhole)
variable (arg19 : Memref sig .tc .vmem S2x64x1024 .bf16) (harg19 : arg19.IsWhole)
variable (arg20 : Memref sig .tc .vmem S2x64x1024 .bf16) (harg20 : arg20.IsWhole)
variable (arg21 : Memref sig .tc .vmem S2x1x1024 .f32) (harg21 : arg21.IsWhole)
variable (arg22 : Memref sig .tc .vmem S2x1x1024 .f32) (harg22 : arg22.IsWhole)
variable (arg23 : Memref sig .tc .vmem S1x1024 .f32) (harg23 : arg23.IsWhole)
variable (arg24 : Memref sig .tc .vmem S64x1024 .f32) (harg24 : arg24.IsWhole)
variable (arg25 : Memref sig .tc .vmem S64x1024 .f32) (harg25 : arg25.IsWhole)
variable (x0 : Vec F S32 .f32) (x1 : Vec F S4 .f32) (x2 : Vec F S4 .f32) (x3 : Vec F S2x1x64x1024 .fp8e4m3) (x4 : Vec F S1x64x1024 .fp8e4m3) (x5 : Vec F S1x64x1024 .fp8e4m3) (x6 : Vec F S2x1x64x1024 .bf16) (x7 : Vec F S2x1x1x1024 .f32) (x8 : Vec F S2x1x64x1024 .fp8e5m2) (x9 : Vec F S1x1024 .f32)
variable (xs0 : Vec F S1024x64 .fp8e4m3) (xs1 : Vec F S64x1024 .bf16) (xs2 : Vec F S1024x64 .bf16) (xs9 : Vec F S64x1024 .f32) (xs10 : Vec F S64x1024 .f32)

theorem inbK : ∀ a, (![0, 0, 0] : Fin 3 → ℕ) a + S1x64x1024.size a ≤ S1x64x1024.size a := by
  intro a; match a with
  | ⟨0, _⟩ => exact Nat.le_refl _
  | ⟨1, _⟩ => exact Nat.le_refl _
  | ⟨2, _⟩ => exact Nat.le_refl _

/-- The operands of a step from its blocks, with the carried key/value tiles as given. -/
def opnds (kn : Fin 4 → Vec F S256x64 .fp8e4m3) (kt : Fin 4 → Vec F S64x256 .bf16) (vn : Fin 4 → Vec F S256x64 .bf16) : Opnds F where
  kc := arg3.view.readAt (Elt F) (Rect.unit (s := S4) (k0_off1 i) S1.size (k0_off1_inb i)).toLoadRect (harg3.unread x1) (Shape.Idx.first (numel1_S1.symm ▸ Nat.one_pos))
  vc := arg4.view.readAt (Elt F) (Rect.unit (s := S4) (k0_off1 i) S1.size (k0_off1_inb i)).toLoadRect (harg4.unread x2) (Shape.Idx.first (numel1_S1.symm ▸ Nat.one_pos))
  qc h := match h with
    | 0 => arg2.view.readAt (Elt F) (Rect.unit (s := S32) (k0_off2 i 0#32) S1.size (k0_off2_inb i 0)).toLoadRect (harg2.unread x0) (Shape.Idx.first (numel1_S1.symm ▸ Nat.one_pos))
    | 1 => arg2.view.readAt (Elt F) (Rect.unit (s := S32) (k0_off2 i 1#32) S1.size (k0_off2_inb i 1)).toLoadRect (harg2.unread x0) (Shape.Idx.first (numel1_S1.symm ▸ Nat.one_pos))
  kn := kn
  kt := kt
  vn := vn
  q h b := arg5.view.readAt (Elt F) (RB64 h b).toLoadRect (harg5.unread x3)
  o h b := arg8.view.readAt (Elt F) (RB64 h b).toLoadRect (harg8.unread x6)
  lse h b := arg9.view.readAt (Elt F) (RB1 h b).toLoadRect (harg9.unread x7)
  dO h b := arg10.view.readAt (Elt F) (RB64 h b).toLoadRect (harg10.unread x8)
  dsc := arg11.view.readAt (Elt F) (Rect.unit (s := S1x1024) ![0, 0] S1x1024.size (Rect.inb₂ (by decide) (by decide))).toLoadRect (harg11.unread x9)
  vdo := arg18.view
  vdw := arg19.view
  vqw := arg20.view
  vlse := arg21.view
  vdel := arg22.view
  vdps := arg23.view

/-- The operands of a step that reads the keys and values the steps before it left in scratch. -/
def opndsOver : Opnds F :=
  opnds i arg2 harg2 arg3 harg3 arg4 harg4 arg5 harg5 arg8 harg8 arg9 harg9 arg10 harg10 arg11 harg11 arg18 arg19 arg20 arg21 arg22 arg23 x0 x1 x2 x3 x6 x7 x8 x9
    (fun j => arg15.view.readAt (Elt F) (RRow j).toLoadRect (harg15.unread xs0))
    (fun j => arg16.view.readAt (Elt F) (R64 j).toLoadRect (harg16.unread xs1))
    (fun j => arg17.view.readAt (Elt F) (RRow j).toLoadRect (harg17.unread xs2))

/-- The stores of the converted, transposed keys. -/
def st15 : List (View.Piece (Elt F) S1024x64 .fp8e4m3) := [⟨Rect.unit (s := S1024x64) ![0, 0] S1024x64.size (Rect.inb₂ (by decide) (by decide)), k0_pay6 (arg6.view.readAt (Elt F) (Rect.unit (s := S1x64x1024) ![0, 0, 0] S1x64x1024.size inbK).toLoadRect (harg6.unread x4))⟩]
/-- The stores of the converted keys. -/
def st16 : List (View.Piece (Elt F) S64x1024 .bf16) := [⟨Rect.unit (s := S64x1024) ![0, 0] S64x1024.size (Rect.inb₂ (by decide) (by decide)), k0_pay5 (arg6.view.readAt (Elt F) (Rect.unit (s := S1x64x1024) ![0, 0, 0] S1x64x1024.size inbK).toLoadRect (harg6.unread x4))⟩]
/-- The stores of the converted, transposed values. -/
def st17 : List (View.Piece (Elt F) S1024x64 .bf16) := [⟨Rect.unit (s := S1024x64) ![0, 0] S1024x64.size (Rect.inb₂ (by decide) (by decide)), k0_pay7 (arg7.view.readAt (Elt F) (Rect.unit (s := S1x64x1024) ![0, 0, 0] S1x64x1024.size inbK).toLoadRect (harg7.unread x5))⟩]

/-- The operands of a first step, which stores the keys and values in scratch before reading them. -/
def opndsFresh : Opnds F :=
  opnds i arg2 harg2 arg3 harg3 arg4 harg4 arg5 harg5 arg8 harg8 arg9 harg9 arg10 harg10 arg11 harg11 arg18 arg19 arg20 arg21 arg22 arg23 x0 x1 x2 x3 x6 x7 x8 x9
    (fun j => arg15.view.readCov (st15 arg6 harg6 x4) (RRow j).toLoadRect)
    (fun j => arg16.view.readCov (st16 arg6 harg6 x4) (R64 j).toLoadRect)
    (fun j => arg17.view.readCov (st17 arg7 harg7 x5) (RRow j).toLoadRect)

/-- A first step stores the query gradients of its two heads. -/
theorem runA_dq (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).1 =
    (opndsFresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9).stDq := by sl_kernel_rfl

/-- A first step walks the tiles over the key-gradient accumulator. -/
theorem runA_dk (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.2.2.2.1 =
    Opnds.stAcc ((opndsFresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9).dkUpd) (Opnds.ldAll arg24.view) [⟨Rect.unit (s := S64x1024) ![0, 0] S64x1024.size (Rect.inb₂ (by decide) (by decide)), k0_pay8⟩] Opnds.tiles := by sl_kernel_rfl

/-- A first step walks the tiles over the value-gradient accumulator. -/
theorem runA_dv (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.2.2.2.2.1 =
    Opnds.stAcc ((opndsFresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9).dvUpd) (Opnds.ldAll arg25.view) [⟨Rect.unit (s := S64x1024) ![0, 0] S64x1024.size (Rect.inb₂ (by decide) (by decide)), k0_pay9⟩] Opnds.tiles := by sl_kernel_rfl

/-- A first step stores the transposed keys. -/
theorem runA_kn (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.1 =
    st15 arg6 harg6 x4 := by sl_kernel_rfl

/-- A first step stores the keys. -/
theorem runA_kt (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.2.1 =
    st16 arg6 harg6 x4 := by sl_kernel_rfl

/-- A first step stores the transposed values. -/
theorem runA_vn (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9).2.2.2.2.2.1 =
    st17 arg7 harg7 x5 := by sl_kernel_rfl

/-- A middle step stores the query gradients of its two heads. -/
theorem runB_dq (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).1 =
    (opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).stDq := by sl_kernel_rfl

/-- A middle step walks the tiles over the key-gradient accumulator. -/
theorem runB_dk (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.2.2.2.2.2.1 =
    Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dkUpd) (Opnds.ldOver arg24.view (harg24.unread xs9)) [] Opnds.tiles := by sl_kernel_rfl

/-- A middle step walks the tiles over the value-gradient accumulator. -/
theorem runB_dv (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.2.2.2.2.2.2.1 =
    Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dvUpd) (Opnds.ldOver arg25.view (harg25.unread xs10)) [] Opnds.tiles := by sl_kernel_rfl

/-- A last step stores the query gradients of its two heads. -/
theorem runC_dq (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).1 =
    (opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).stDq := by sl_kernel_rfl

/-- A last step walks the tiles over the key-gradient accumulator. -/
theorem runC_dk (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.2.2.2.2.2.1 =
    Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dkUpd) (Opnds.ldOver arg24.view (harg24.unread xs9)) [] Opnds.tiles := by sl_kernel_rfl

/-- A last step walks the tiles over the value-gradient accumulator. -/
theorem runC_dv (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.2.2.2.2.2.2.1 =
    Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dvUpd) (Opnds.ldOver arg25.view (harg25.unread xs10)) [] Opnds.tiles := by sl_kernel_rfl

/-- A last step stores the key-gradient accumulator, scaled. -/
theorem runC_dkOut (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.1 =
    [⟨Rect.unit (s := S1x64x1024) ![0, 0, 0] S1x64x1024.size inbK, k0_pay2 (arg24.view.readCov (Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dkUpd) (Opnds.ldOver arg24.view (harg24.unread xs9)) [] Opnds.tiles) (Rect.unit (s := S64x1024) ![0, 0] S64x1024.size (Rect.inb₂ (by decide) (by decide))).toLoadRect)⟩] := by sl_kernel_rfl

/-- A last step stores the value-gradient accumulator. -/
theorem runC_dvOut (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10).2.2.1 =
    [⟨Rect.unit (s := S1x64x1024) ![0, 0, 0] S1x64x1024.size inbK, k0_pay3 (arg25.view.readCov (Opnds.stAcc ((opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2).dvUpd) (Opnds.ldOver arg25.view (harg25.unread xs10)) [] Opnds.tiles) (Rect.unit (s := S64x1024) ![0, 0] S64x1024.size (Rect.inb₂ (by decide) (by decide))).toLoadRect)⟩] := by sl_kernel_rfl

end Cert.Own

end
-- ==== Proof.Lists.lean ====
/- What the lists of stores of a step leave: a prepared block read back is the block stored, and an accumulator block
   is its initial contents plus the contributions of the tiles that touch it. -/
module

public import proofs.«01_k».proof.Proof.Model
public import Idealize.ShloMosaic.PureOps.Ideal.Laws
public import Idealize.ShloMosaic.Lib.Pipeline.FrameBody
public import Idealize.ShloMosaic.Lib.Pipeline.Value

@[expose] public section

set_option maxRecDepth 16384

noncomputable section

namespace Cert.Own

open Cert.KernelIdeal Cert.KernelIdeal.Gen
open Idealize.ShloMosaic Idealize.SL.Sem Idealize.ShloMosaic.View

/-- Stores at pairwise disjoint rectangles: the contents at one of them are what was stored there. -/
theorem canon_map {ι : Type} {s : Shape} {e : EltTy} {Val : EltTy → Type} [∀ e, Nonempty (Val e)] (Rf : ι → Rect s)
    (hd : ∀ a b x, a ≠ b → (Rf a).emb x ∉ (Rf b).set) (pay : ∀ a, (Rf a).shape.Idx → Val e) (a : ι) (x : (Rf a).shape.Idx) :
    ∀ l : List ι, a ∈ l → canon (l.map fun b => (⟨Rf b, pay b⟩ : Piece Val s e)) ((Rf a).emb x) = pay a x
  | [], h => absurd h List.not_mem_nil
  | b :: l, h => by
    by_cases hab : a = b
    · subst hab
      exact canon_cons_emb _ _ _ _
    · rw [List.map_cons, canon_cons_of_not_mem _ _ (hd a b x hab)]
      exact canon_map Rf hd pay a x l ((List.mem_cons.mp h).resolve_left hab)

/-- Off the last store's rectangle the contents are those of the stores before it. -/
theorem canon_cons_off {s : Shape} {e : EltTy} {Val : EltTy → Type} [∀ e, Nonempty (Val e)] (r : Rect s) (w : r.shape.Idx → Val e)
    (L : List (Piece Val s e)) {y : s.Idx} (h : y ∉ r.set) : canon (⟨r, w⟩ :: L) y = canon L y :=
  canon_cons_of_not_mem ⟨r, w⟩ L h

theorem RH64_disjoint (a b : Fin 2 × Fin 4) (x) (h : a ≠ b) : (RH64 a.1 a.2).emb x ∉ (RH64 b.1 b.2).set := by
  intro hm
  have h0 := (Rect.mem_set_unit.mp hm) 0
  have h2 := (Rect.mem_set_unit.mp hm) 2
  have x0 : (x 0).val < 1 := (x 0).isLt
  have x2 : (x 2).val < 256 := (x 2).isLt
  change b.1.val ≤ a.1.val + 1 * (x 0).val ∧ a.1.val + 1 * (x 0).val < b.1.val + 1 at h0
  change 256 * b.2.val ≤ 256 * a.2.val + 1 * (x 2).val ∧ 256 * a.2.val + 1 * (x 2).val < 256 * b.2.val + 256 at h2
  exact h (Prod.ext (Fin.ext (by omega)) (Fin.ext (by omega)))

theorem RH1_disjoint (a b : Fin 2 × Fin 4) (x) (h : a ≠ b) : (RH1 a.1 a.2).emb x ∉ (RH1 b.1 b.2).set := by
  intro hm
  have h0 := (Rect.mem_set_unit.mp hm) 0
  have h2 := (Rect.mem_set_unit.mp hm) 2
  have x0 : (x 0).val < 1 := (x 0).isLt
  have x2 : (x 2).val < 256 := (x 2).isLt
  change b.1.val ≤ a.1.val + 1 * (x 0).val ∧ a.1.val + 1 * (x 0).val < b.1.val + 1 at h0
  change 256 * b.2.val ≤ 256 * a.2.val + 1 * (x 2).val ∧ 256 * a.2.val + 1 * (x 2).val < 256 * b.2.val + 256 at h2
  exact h (Prod.ext (Fin.ext (by omega)) (Fin.ext (by omega)))

theorem RB64_disjoint (a b : Fin 2 × Fin 4) (x) (h : a ≠ b) : (RB64 a.1 a.2).emb x ∉ (RB64 b.1 b.2).set := by
  intro hm
  have h0 := (Rect.mem_set_unit.mp hm) 0
  have h3 := (Rect.mem_set_unit.mp hm) 3
  have x0 : (x 0).val < 1 := (x 0).isLt
  have x3 : (x 3).val < 256 := (x 3).isLt
  change b.1.val ≤ a.1.val + 1 * (x 0).val ∧ a.1.val + 1 * (x 0).val < b.1.val + 1 at h0
  change 256 * b.2.val ≤ 256 * a.2.val + 1 * (x 3).val ∧ 256 * a.2.val + 1 * (x 3).val < 256 * b.2.val + 256 at h3
  exact h (Prod.ext (Fin.ext (by omega)) (Fin.ext (by omega)))

theorem R64_disjoint {a b : Fin 4} (x : (R64 a).shape.Idx) (h : a ≠ b) : (R64 a).emb x ∉ (R64 b).set := by
  intro hm
  have h1 := (Rect.mem_set_unit.mp hm) 1
  have x1 : (x 1).val < 256 := (x 1).isLt
  change 256 * b.val ≤ 256 * a.val + 1 * (x 1).val ∧ 256 * a.val + 1 * (x 1).val < 256 * b.val + 256 at h1
  exact h (Fin.ext (by omega))

theorem mem_at1 : ∀ (e : Fin 2) (i : Fin 4), (e, i) ∈ Opnds.at1 e := by decide
theorem mem_at2 : ∀ (e : Fin 2) (i j : Fin 4), (e, i) ∈ Opnds.at2 e i j := by decide
theorem mem_late : ∀ (e : Fin 2) (i : Fin 4), (e, i) ∈ Opnds.late := by decide

section readback
variable {F : FTy → Type} [FloatOps F] [Named F] (p : Opnds F)

theorem st64_read (v : View sig .tc .vmem S2x64x1024 .bf16) (pay : Fin 2 → Fin 4 → FVec F S1x64x256 .bf16)
    (l : List (Fin 2 × Fin 4)) (e : Fin 2) (i : Fin 4) (h : (e, i) ∈ l) :
    v.readCov (Opnds.st64 pay l) (RH64 e i).toLoadRect = pay e i := by
  rw [readCov_eq_canon']
  funext x
  exact canon_map (Val := Elt F) (e := .bf16) (fun a : Fin 2 × Fin 4 => RH64 a.1 a.2) RH64_disjoint (fun a => pay a.1 a.2) (e, i) x l h

theorem st1_read (v : View sig .tc .vmem S2x1x1024 .f32) (pay : Fin 2 → Fin 4 → FVec F S1x1x256 .f32)
    (l : List (Fin 2 × Fin 4)) (e : Fin 2) (i : Fin 4) (h : (e, i) ∈ l) :
    v.readCov (Opnds.st1 pay l) (RH1 e i).toLoadRect = pay e i := by
  rw [readCov_eq_canon']
  funext x
  exact canon_map (Val := Elt F) (e := .f32) (fun a : Fin 2 × Fin 4 => RH1 a.1 a.2) RH1_disjoint (fun a => pay a.1 a.2) (e, i) x l h

theorem doS_eq (e : Fin 2) (i : Fin 4) : p.doS e i = p.doPay e i := st64_read _ _ _ _ _ (mem_at1 e i)
theorem dwS_eq (e : Fin 2) (i j : Fin 4) : p.dwS e i j = p.dwPay e i := st64_read _ _ _ _ _ (mem_at2 e i j)
theorem qwS_eq (e : Fin 2) (i j : Fin 4) : p.qwS e i j = p.qwPay e i := st64_read _ _ _ _ _ (mem_at2 e i j)
theorem lseS_eq (e : Fin 2) (i j : Fin 4) : p.lseS e i j = p.lsePay e i := st1_read _ _ _ _ _ (mem_at2 e i j)
theorem delS_eq (e : Fin 2) (i j : Fin 4) : p.delS e i j = p.delPay e i := st1_read _ _ _ _ _ (mem_at2 e i j)
theorem dpsS_eq (i : Fin 4) : p.dpsS i = fun x => p.dpsPay ((RLane i).emb x) := by
  unfold Opnds.dpsS
  rw [readCov_eq_canon']
  funext x
  rw [canon_cons_unit_zero (by funext a; fin_cases a <;> rfl)]
  rfl

/-- The query-gradient block of a step holds, at head `e` and block `i`, what was stored there. -/
theorem stDq_canon (e : Fin 2) (i : Fin 4) (x : S1x1x64x256.Idx) : canon p.stDq ((RB64 e i).emb x) = p.dqPay e i x :=
  canon_map (Val := Elt F) (e := .bf16) (fun a : Fin 2 × Fin 4 => RB64 a.1 a.2) RB64_disjoint (fun a => p.dqPay a.1 a.2) (e, i) x Opnds.late (mem_late e i)

end readback

/-! ### Accumulators -/

section accumulate
variable (u : Fin 2 → Fin 4 → Fin 4 → Vec Ideal S64x256 .f32 → FVec Ideal S64x256 .f32)
variable (U : Fin 2 → Fin 4 → Fin 4 → S64x256.Idx → EReal)

/-- The contributions to block `J` of a list of tiles. -/
def contrib (J : Fin 4) (x : S64x256.Idx) (l : List (Fin 2 × Fin 4 × Fin 4)) : EReal :=
  (l.map fun a => if a.2.2 = J then U a.1 a.2.1 a.2.2 x else 0).sum

theorem contrib_cons (J : Fin 4) (x : S64x256.Idx) (a : Fin 2 × Fin 4 × Fin 4) (l : List (Fin 2 × Fin 4 × Fin 4)) :
    contrib U J x (a :: l) = (if a.2.2 = J then U a.1 a.2.1 a.2.2 x else 0) + contrib U J x l := by
  simp [contrib]

theorem contrib_of_not_mem (J : Fin 4) (x : S64x256.Idx) :
    ∀ l : List (Fin 2 × Fin 4 × Fin 4), (∀ b ∈ l, b.2.2 ≠ J) → contrib U J x l = 0
  | [], _ => rfl
  | a :: l, h => by
    rw [contrib_cons, if_neg (h a (List.mem_cons_self ..)), zero_add]
    exact contrib_of_not_mem J x l fun b hb => h b (List.mem_cons_of_mem _ hb)

theorem canon_stAcc_all (hu : ∀ e i j acc x, u e i j acc x = (acc x + U e i j x : EReal)) (v : View sig .tc .vmem S64x1024 .f32)
    (bot : List (Piece (Elt Ideal) S64x1024 .f32)) (J : Fin 4) (x : S64x256.Idx) :
    ∀ l, canon (Opnds.stAcc u (Opnds.ldAll v) bot l) ((R64 J).emb x) = (canon bot ((R64 J).emb x) + contrib U J x l : EReal)
  | [] => (add_zero (M := EReal) _).symm
  | a :: l => by
    have ih := canon_stAcc_all hu v bot J x l
    unfold Opnds.stAcc
    by_cases h : a.2.2 = J
    · subst h
      rw [canon_cons_emb, hu, contrib_cons, if_pos rfl, Opnds.ldAll, readCov_eq_canon']
      have e : canon (Opnds.stAcc u (Opnds.ldAll v) bot l) ((R64 a.2.2).toLoadRect.idx x) = _ := ih
      refine (congrArg (fun z : EReal => z + _) e).trans ?_
      rw [add_assoc, add_comm (contrib U _ x l)]
    · have hn : (R64 J).emb x ∉ (R64 a.2.2).set := R64_disjoint x (Ne.symm h)
      rw [canon_cons_off _ _ _ hn, ih, contrib_cons, if_neg h, zero_add]

/-- The first head's diagonal tile is where a block is met first. -/
def FirstVisits : List (Fin 2 × Fin 4 × Fin 4) → Prop
  | [] => True
  | a :: l => ((a.1 = 0 ∧ a.2.1 = a.2.2) ↔ ∀ b ∈ l, b.2.2 ≠ a.2.2) ∧ FirstVisits l

instance decFirstVisits : ∀ l, Decidable (FirstVisits l)
  | [] => isTrue trivial
  | a :: l => @instDecidableAnd _ _ (inferInstance : Decidable ((a.1 = 0 ∧ a.2.1 = a.2.2) ↔ ∀ b ∈ l, b.2.2 ≠ a.2.2)) (decFirstVisits l)

theorem firstVisits_tiles : FirstVisits Opnds.tiles := by decide

theorem canon_stAcc_over (hu : ∀ e i j acc x, u e i j acc x = (acc x + U e i j x : EReal)) (v : View sig .tc .vmem S64x1024 .f32)
    (f : v.ty.Contents (Elt Ideal)) (J : Fin 4) (x : S64x256.Idx) :
    ∀ l, FirstVisits l → (∃ b ∈ l, b.2.2 = J) →
      canon (Opnds.stAcc u (Opnds.ldOver v f) [] l) ((R64 J).emb x) = (v.read (Elt Ideal) f ((R64 J).emb x) + contrib U J x l : EReal)
  | [], _, h => by obtain ⟨b, hb, _⟩ := h; exact absurd hb List.not_mem_nil
  | a :: l, hf, hJ => by
    have ih := canon_stAcc_over hu v f J x l hf.2
    unfold Opnds.stAcc
    by_cases h : a.2.2 = J
    · subst h
      rw [canon_cons_emb, hu, contrib_cons, if_pos rfl, Opnds.ldOver]
      by_cases hv : a.1 = 0 ∧ a.2.1 = a.2.2
      · rw [if_pos hv, contrib_of_not_mem U _ x l (hf.1.mp hv), add_zero]
        rfl
      · rw [if_neg hv, readCov_eq_canon']
        have hl : ∃ b ∈ l, b.2.2 = a.2.2 := by
          by_contra hn
          exact hv (hf.1.mpr fun b hb he => hn ⟨b, hb, he⟩)
        have e : canon (Opnds.stAcc u (Opnds.ldOver v f) [] l) ((R64 a.2.2).toLoadRect.idx x) = _ := ih hl
        refine (congrArg (fun z : EReal => z + _) e).trans ?_
        rw [add_assoc, add_comm (contrib U _ x l)]
    · obtain ⟨b, hb, he⟩ := hJ
      have hl : ∃ b ∈ l, b.2.2 = J := ⟨b, (List.mem_cons.mp hb).resolve_left fun hh => h (hh ▸ he), he⟩
      have hn : (R64 J).emb x ∉ (R64 a.2.2).set := R64_disjoint x (Ne.symm h)
      rw [canon_cons_off _ _ _ hn, ih hl, contrib_cons, if_neg h, zero_add]

theorem tiles_touch : ∀ J : Fin 4, ∃ b ∈ Opnds.tiles, b.2.2 = J := by decide

/-- All the tiles' contributions to block `J`: those of the query blocks from `J` on, of both heads. -/
theorem contrib_tiles (J : Fin 4) (x : S64x256.Idx) :
    contrib U J x Opnds.tiles = ∑ e : Fin 2, ∑ i : Fin 4, if J ≤ i then U e i J x else 0 := by
  fin_cases J <;> simp [contrib, Opnds.tiles, Fin.sum_univ_succ] <;> abel

end accumulate

end Cert.Own

end
-- ==== Proof.Algebra.lean ====
/- Extended-real arithmetic used by the value claim: the base-two exponential against the natural one,
   and multiplication by a factor that is nonnegative and finite. Nothing here mentions a program. -/
module

public import Idealize.ShloMosaic.PureOps.Ideal.Laws
public import Idealize.ShloMosaic.Lib.ValueIdx
public import Idealize.ShloMosaic.Lib.IdealHost

@[expose] public section

noncomputable section

namespace Cert.Own

open Idealize.ShloMosaic

/-- The factor `1 / log 2`, by which a natural exponent becomes a base-two exponent. -/
def L2 : EReal := (((Real.log 2)⁻¹ : ℝ) : EReal)

/-- The factor `1 / log 2` is nonnegative. -/
theorem L2_nonneg : 0 ≤ L2 := by
  unfold L2
  exact_mod_cast (inv_pos.mpr (Real.log_pos (by norm_num : (1 : ℝ) < 2))).le

/-- The factor `1 / log 2` is not `+∞`. -/
theorem L2_ne_top : L2 ≠ ⊤ := EReal.coe_ne_top _

/-- Two raised to `x / log 2` is `e` raised to `x`, at every extended real `x`. -/
theorem exp2_mul_L2 (x : EReal) : Ideal.exp2 (x * L2) = Ideal.exp x := by
  have hp : (0 : ℝ) < (Real.log 2)⁻¹ := inv_pos.mpr (Real.log_pos (by norm_num))
  induction x using EReal.rec with
  | bot => unfold L2; rw [EReal.bot_mul_coe_of_pos hp]; rfl
  | top => unfold L2; rw [EReal.top_mul_coe_of_pos hp]; rfl
  | coe r =>
    unfold L2
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- A difference times a nonnegative finite factor is the difference of the products. -/
theorem sub_mul_nonneg {c : EReal} (h0 : 0 ≤ c) (ht : c ≠ ⊤) (x y : EReal) :
    (x - y) * c = x * c - y * c := by
  rw [sub_eq_add_neg, sub_eq_add_neg, EReal.right_distrib_of_nonneg_of_ne_top h0 ht, EReal.neg_mul]

/-- A finite sum times a nonnegative finite factor is the sum of the products. -/
theorem sum_mul_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The base-two form of a shifted exponent: `2 ^ (x·(s/log 2) − l/log 2) = e ^ (x·s − l)`. -/
theorem exp2_shift (x l : EReal) : Ideal.exp2 (x * L2 - l * L2) = Ideal.exp (x - l) := by
  rw [← sub_mul_nonneg L2_nonneg L2_ne_top, exp2_mul_L2]

/-- The pattern `0x3E000000` is one eighth. -/
theorem ofBits_eighth : Ideal.ofBits .f32 0x3E000000#32 = ((1 / 8 : ℝ) : EReal) := by
  simp [Ideal.ofBits, Ideal.ieee]
  rw [← EReal.coe_mul]; norm_num

/-- The pattern `0xFF800000` is `-∞`. -/
theorem ofBits_neg_inf : Ideal.ofBits .f32 0xFF800000#32 = ⊥ := by
  simp [Ideal.ofBits, Ideal.ieee]

/-- The constant `(1/8)·(1/log 2)` as a product of the two. -/
theorem eighth_L2 : (((1 / 8) * (Real.log 2)⁻¹ : ℝ) : EReal) = ((1 / 8 : ℝ) : EReal) * L2 := by
  unfold L2; exact EReal.coe_mul _ _

/-- `e` raised to `-∞` less anything is zero. -/
theorem exp_bot_sub (l : EReal) : Ideal.exp (⊥ - l) = 0 := by
  rw [sub_eq_add_neg, EReal.bot_add]; rfl

end Cert.Own

end
-- ==== Proof.Spec.lean ====
/- The backward pass of grouped-query causal attention as formulas over extended reals: what both programs
   compute. The thirty-two query heads are eight groups of four; head `4·g + h` reads key head `h`. -/
module

public import proofs.«01_k».proof.Proof.Algebra

@[expose] public section

noncomputable section

namespace Cert.Own

open Idealize.ShloMosaic

/-- The ten argument arrays, read by position, head and lane. -/
structure Args where
  q : Fin 1024 → Fin 32 → Fin 64 → EReal
  qs : Fin 32 → EReal
  k : Fin 1024 → Fin 4 → Fin 64 → EReal
  ks : Fin 4 → EReal
  v : Fin 1024 → Fin 4 → Fin 64 → EReal
  vs : Fin 4 → EReal
  o : Fin 1024 → Fin 32 → Fin 64 → EReal
  lse : Fin 32 → Fin 1024 → EReal
  dO : Fin 1024 → Fin 32 → Fin 64 → EReal
  dsc : Fin 1024 → EReal

/-- Query head `4·g + h`. -/
abbrev head (g : Fin 8) (h : Fin 4) : Fin 32 := ⟨g.val * 4 + h.val, by omega⟩

/-- One eighth: the inverse square root of the head dimension 64. -/
def eighth : EReal := ((1 / 8 : ℝ) : EReal)

namespace Args

variable (a : Args)

/-- The unscaled score of query position `i` against key position `j`. -/
def score (g : Fin 8) (h : Fin 4) (i j : Fin 1024) : EReal := ∑ d, a.k j h d * a.q i (head g h) d

/-- The attention probability; zero where the key position is after the query position. -/
def prob (g : Fin 8) (h : Fin 4) (i j : Fin 1024) : EReal :=
  if j.val ≤ i.val then Ideal.exp (a.score g h i j * a.qs (head g h) * a.ks h * eighth - a.lse (head g h) i) else 0

/-- The row sum of the scaled output gradient times the output. -/
def delta (g : Fin 8) (h : Fin 4) (i : Fin 1024) : EReal :=
  ∑ d, a.dO i (head g h) d * a.dsc i * a.o i (head g h) d

/-- The gradient with respect to the probability. -/
def dprob (g : Fin 8) (h : Fin 4) (i j : Fin 1024) : EReal :=
  (∑ d, a.v j h d * a.dO i (head g h) d) * a.dsc i * a.vs h

/-- The gradient with respect to the score. -/
def dscore (g : Fin 8) (h : Fin 4) (i j : Fin 1024) : EReal :=
  a.prob g h i j * (a.dprob g h i j - a.delta g h i)

/-- The gradient of the queries. -/
def dq (g : Fin 8) (h : Fin 4) (d : Fin 64) (i : Fin 1024) : EReal :=
  (∑ j, a.k j h d * a.dscore g h i j) * (a.ks h * eighth)

/-- The gradient of the keys. -/
def dk (h : Fin 4) (d : Fin 64) (j : Fin 1024) : EReal :=
  (∑ g, ∑ i, a.q i (head g h) d * a.qs (head g h) * a.dscore g h i j) * eighth

/-- The gradient of the values. -/
def dv (h : Fin 4) (d : Fin 64) (j : Fin 1024) : EReal :=
  ∑ g, ∑ i, a.dO i (head g h) d * a.dsc i * a.prob g h i j

end Args

/-- Comparing two positions below `2 ^ 31` as signed words compares them as numbers. -/
theorem sle_word (i j : Fin 1024) :
    IntOp.cmpi .sle (BitVec.ofNat 32 j.val) (BitVec.ofNat 32 i.val) = if j.val ≤ i.val then 1#1 else 0#1 := by
  have hi := i.isLt; have hj := j.isLt
  have e : ∀ n : Nat, n < 1024 → (BitVec.ofNat 32 n).toInt = (n : Int) := fun n hn => by
    rw [BitVec.toInt_eq_toNat_cond, BitVec.toNat_ofNat]; norm_num; omega
  have s : (BitVec.ofNat 32 j.val).sle (BitVec.ofNat 32 i.val) = decide (j.val ≤ i.val) := by
    rw [BitVec.sle, e _ hj, e _ hi]; simp
  show BitVec.ofBool ((BitVec.ofNat 32 j.val).sle (BitVec.ofNat 32 i.val)) = _
  rw [s]; by_cases hle : j.val ≤ i.val <;> simp [hle]

/-- Two indices of a rank-1 shape with equal coordinates are equal. -/
theorem idx1_ext {n0 : Nat} {x y : (⟨1, ![n0]⟩ : Shape).Idx} (h0 : (x 0).val = (y 0).val) : x = y :=
  funext fun a => Fin.ext (match a with | ⟨0, _⟩ => h0)
/-- Two indices of a rank-2 shape with equal coordinates are equal. -/
theorem idx2_ext {n0 n1 : Nat} {x y : (⟨2, ![n0, n1]⟩ : Shape).Idx} (h0 : (x 0).val = (y 0).val)
    (h1 : (x 1).val = (y 1).val) : x = y :=
  funext fun a => Fin.ext (match a with | ⟨0, _⟩ => h0 | ⟨1, _⟩ => h1)
/-- Two indices of a rank-3 shape with equal coordinates are equal. -/
theorem idx3_ext {n0 n1 n2 : Nat} {x y : (⟨3, ![n0, n1, n2]⟩ : Shape).Idx} (h0 : (x 0).val = (y 0).val)
    (h1 : (x 1).val = (y 1).val) (h2 : (x 2).val = (y 2).val) : x = y :=
  funext fun a => Fin.ext (match a with | ⟨0, _⟩ => h0 | ⟨1, _⟩ => h1 | ⟨2, _⟩ => h2)
/-- Two indices of a rank-4 shape with equal coordinates are equal. -/
theorem idx4_ext {n0 n1 n2 n3 : Nat} {x y : (⟨4, ![n0, n1, n2, n3]⟩ : Shape).Idx} (h0 : (x 0).val = (y 0).val)
    (h1 : (x 1).val = (y 1).val) (h2 : (x 2).val = (y 2).val) (h3 : (x 3).val = (y 3).val) : x = y :=
  funext fun a => Fin.ext (match a with | ⟨0, _⟩ => h0 | ⟨1, _⟩ => h1 | ⟨2, _⟩ => h2 | ⟨3, _⟩ => h3)
/-- Two indices of a rank-5 shape with equal coordinates are equal. -/
theorem idx5_ext {n0 n1 n2 n3 n4 : Nat} {x y : (⟨5, ![n0, n1, n2, n3, n4]⟩ : Shape).Idx} (h0 : (x 0).val = (y 0).val)
    (h1 : (x 1).val = (y 1).val) (h2 : (x 2).val = (y 2).val) (h3 : (x 3).val = (y 3).val) (h4 : (x 4).val = (y 4).val) :
    x = y :=
  funext fun a => Fin.ext (match a with | ⟨0, _⟩ => h0 | ⟨1, _⟩ => h1 | ⟨2, _⟩ => h2 | ⟨3, _⟩ => h3 | ⟨4, _⟩ => h4)

end Cert.Own

end
-- ==== Proof.Tile.lean ====
/- The tiles of one grid step evaluated at the extended reals, element by element, against the formulas of `Spec`. -/
module

public import proofs.«01_k».proof.Proof.Lists
public import proofs.«01_k».proof.Proof.Spec
public import Idealize.ShloMosaic.PureOps.Ideal.Laws
public import Idealize.ShloMosaic.Lib.Pointwise
public import Idealize.ShloMosaic.Lib.Pipeline.Value
public import Idealize.ShloMosaic.Lib.ValueIdx
public import Idealize.ShloMosaic.Lib.ValueLayout
public import Idealize.ShloMosaic.Lib.Pipeline.FrameBody

@[expose] public section

set_option maxRecDepth 16384

noncomputable section

namespace Cert.Own

open Cert.KernelIdeal Cert.KernelIdeal.Gen
open Idealize.ShloMosaic Idealize.SL.Sem

/-- Position `x` of block `i`. -/
abbrev pos (i : Fin 4) (x : Fin 256) : Fin 1024 := ⟨256 * i.val + x.val, by omega⟩

/-- The operands `p` of a step hold the arrays of `a`: key head `h`, and query head `g e` of its group for each of the
    step's two heads `e`. -/
structure Reads (p : Opnds Ideal) (a : Args) (h : Fin 4) (g : Fin 2 → Fin 8) : Prop where
  kc : p.kc = a.ks h
  vc : p.vc = a.vs h
  qc : ∀ e, p.qc e = a.qs (head (g e) h)
  kn : ∀ j y d, p.kn j (ix2 y d) = a.k (pos j y) h d
  kt : ∀ j d y, p.kt j (ix2 d y) = a.k (pos j y) h d
  vn : ∀ j y d, p.vn j (ix2 y d) = a.v (pos j y) h d
  q : ∀ e i d x, p.q e i (ix4 0 0 d x) = a.q (pos i x) (head (g e) h) d
  dO : ∀ e i d x, p.dO e i (ix4 0 0 d x) = a.dO (pos i x) (head (g e) h) d
  o : ∀ e i d x, p.o e i (ix4 0 0 d x) = a.o (pos i x) (head (g e) h) d
  lse : ∀ e i x, p.lse e i (ix4 0 0 0 x) = a.lse (head (g e) h) (pos i x)
  dsc : ∀ s, p.dsc (ix2 0 s) = a.dsc s

/-- A sum over the positions is a sum over the blocks and the positions in each. -/
theorem sum_pos (f : Fin 1024 → EReal) : ∑ t, f t = ∑ i : Fin 4, ∑ x : Fin 256, f (pos i x) := by
  rw [← Fintype.sum_prod_type']
  refine (Equiv.sum_comp (finProdFinEquiv (m := 4) (n := 256)) f).symm.trans (Finset.sum_congr rfl fun ix _ => ?_)
  exact congrArg f (Fin.ext (by show ix.2.val + 256 * ix.1.val = 256 * ix.1.val + ix.2.val; omega))

/-- The factor on the scores that the kernel spells with `log₂ e`. -/
theorem sm_value : (Named.named κ "sm_log2e" 0x3E38AA3B#32 : Ideal .f32) = eighth * L2 :=
  (IdealRules.named_const.ideal_named_scalar _ _ _ _ rfl).trans eighth_L2

/-- The factor on the log-sum-exps. -/
theorem log2e_value : (Named.named κ "log2e" 0x3FB8AA3B#32 : Ideal .f32) = L2 :=
  IdealRules.named_const.ideal_named_scalar _ _ _ _ rfl

variable {p : Opnds Ideal} {a : Args} {h : Fin 4} {g : Fin 2 → Fin 8}

theorem score_eq (R : Reads p a h g) (e : Fin 2) (i j : Fin 4) (y x : Fin 256) :
    p.score e i j (ix2 y x) = a.score (g e) h (pos i x) (pos j y) := by
  pointwise [Opnds.score, Args.score]
  simp only [R.kn, R.q]

theorem doPay_eq (R : Reads p a h g) (e : Fin 2) (i : Fin 4) (d : Fin 64) (x : Fin 256) :
    p.doPay e i (ix3 0 d x) = a.dO (pos i x) (head (g e) h) d := by
  pointwise [Opnds.doPay, Opnds.doBlk]
  exact R.dO e i d x

theorem dwPay_eq (R : Reads p a h g) (e : Fin 2) (i : Fin 4) (d : Fin 64) (x : Fin 256) :
    p.dwPay e i (ix3 0 d x) = a.dO (pos i x) (head (g e) h) d * a.dsc (pos i x) := by
  pointwise [Opnds.dwPay, Opnds.doBlk]
  rw [R.dO, R.dsc]

theorem qwPay_eq (R : Reads p a h g) (e : Fin 2) (i : Fin 4) (d : Fin 64) (x : Fin 256) :
    p.qwPay e i (ix3 0 d x) = a.q (pos i x) (head (g e) h) d * a.qs (head (g e) h) := by
  pointwise [Opnds.qwPay]
  rw [R.q, R.qc]

theorem lsePay_eq (R : Reads p a h g) (e : Fin 2) (i : Fin 4) (x : Fin 256) :
    p.lsePay e i (ix3 0 0 x) = a.lse (head (g e) h) (pos i x) * L2 := by
  pointwise [Opnds.lsePay]
  rw [R.lse]
  exact congrArg _ log2e_value

/-- The row sum the kernel scales after summing is the one scaled before. -/
theorem delPay_eq (R : Reads p a h g) (h0 : ∀ s, 0 ≤ a.dsc s) (ht : ∀ s, a.dsc s ≠ ⊤) (e : Fin 2) (i : Fin 4) (x : Fin 256) :
    p.delPay e i (ix3 0 0 x) = a.delta (g e) h (pos i x) := by
  pointwise [Opnds.delPay]
  simp only [R.dO, R.o, R.dsc]
  rw [sum_mul_nonneg _ _ (h0 _) (ht _)]
  exact Finset.sum_congr rfl fun d _ => mul_right_comm _ _ _

theorem dpsPay_eq (R : Reads p a h g) (s : Fin 1024) :
    p.dpsPay (ix2 0 s) = a.dsc s * a.vs h := by
  pointwise [Opnds.dpsPay]
  rw [R.dsc, R.vc]

theorem expo_eq (R : Reads p a h g) (e : Fin 2) (i j : Fin 4) (y x : Fin 256) :
    p.expo e i j (ix2 y x) = Ideal.exp (a.score (g e) h (pos i x) (pos j y) * a.qs (head (g e) h) * a.ks h * eighth
      - a.lse (head (g e) h) (pos i x)) := by
  pointwise [Opnds.expo, Opnds.c, lseS_eq]
  rw [score_eq R, lsePay_eq R, R.qc, R.kc, ← exp2_shift]
  refine congrArg Ideal.exp2 (congrArg (· - _) ?_)
  refine (congrArg (fun z : EReal => _ * (_ * z)) sm_value).trans ?_
  simp only [mul_assoc]

theorem prob_eq (R : Reads p a h g) (e : Fin 2) (i j : Fin 4) (hj : j ≤ i) (y x : Fin 256) :
    p.prob e i j (ix2 y x) = a.prob (g e) h (pos i x) (pos j y) := by
  unfold Opnds.prob
  by_cases hij : i = j
  · subst hij
    rw [if_pos rfl]
    pointwise [k0_pay11]
    have hw := sle_word (⟨x.val, by omega⟩ : Fin 1024) (⟨y.val, by omega⟩ : Fin 1024)
    simp only at hw
    rw [hw, expo_eq R, Args.prob]
    by_cases hyx : y.val ≤ x.val
    · rw [if_pos hyx, if_pos (by show 256 * i.val + y.val ≤ 256 * i.val + x.val; omega)]
      rfl
    · rw [if_neg hyx, if_neg (by show ¬ 256 * i.val + y.val ≤ 256 * i.val + x.val; omega)]
      rfl
  · rw [if_neg hij, expo_eq R]
    have : j.val < i.val := lt_of_le_of_ne hj fun hh => hij (Fin.ext hh.symm)
    rw [Args.prob, if_pos (by show 256 * j.val + y.val ≤ 256 * i.val + x.val; omega)]

theorem dprob_eq (R : Reads p a h g) (e : Fin 2) (i j : Fin 4) (y x : Fin 256) :
    p.dprob e i j (ix2 y x) = ∑ d, a.v (pos j y) h d * a.dO (pos i x) (head (g e) h) d := by
  pointwise [Opnds.dprob, doS_eq]
  simp only [R.vn, doPay_eq R]

theorem dscore_eq (R : Reads p a h g) (h0 : ∀ s, 0 ≤ a.dsc s) (ht : ∀ s, a.dsc s ≠ ⊤) (e : Fin 2) (i j : Fin 4) (hj : j ≤ i)
    (y x : Fin 256) : p.dscore e i j (ix2 y x) = a.dscore (g e) h (pos i x) (pos j y) := by
  pointwise [Opnds.dscore, delS_eq, dpsS_eq]
  rw [prob_eq R e i j hj, dprob_eq R, delPay_eq R h0 ht]
  have e1 : (RLane i).emb (ix2 0 x) = ix2 0 (pos i x) := idx2_ext rfl (by show 256 * i.val + 1 * x.val = 256 * i.val + x.val; omega)
  rw [e1, dpsPay_eq R, Args.dscore, Args.dprob, mul_assoc (∑ d, _)]

/-- What a tile adds to the value gradient. -/
def dvAdd (p : Opnds Ideal) (e : Fin 2) (i j : Fin 4) (x : S64x256.Idx) : EReal :=
  ∑ t : Fin 256, p.dwPay e i (ix3 0 (x 0) t) * p.prob e i j (ix2 (x 1) t)
/-- What a tile adds to the key gradient. -/
def dkAdd (p : Opnds Ideal) (e : Fin 2) (i j : Fin 4) (x : S64x256.Idx) : EReal :=
  ∑ t : Fin 256, p.qwPay e i (ix3 0 (x 0) t) * p.dscore e i j (ix2 (x 1) t)

theorem dvUpd_eq (e : Fin 2) (i j : Fin 4) (acc : Vec Ideal S64x256 .f32) (x : S64x256.Idx) :
    p.dvUpd e i j acc x = (acc x + dvAdd p e i j x : EReal) := by
  pointwise [Opnds.dvUpd, Opnds.upd, dwS_eq, dvAdd]

theorem dkUpd_eq (e : Fin 2) (i j : Fin 4) (acc : Vec Ideal S64x256 .f32) (x : S64x256.Idx) :
    p.dkUpd e i j acc x = (acc x + dkAdd p e i j x : EReal) := by
  pointwise [Opnds.dkUpd, Opnds.upd, qwS_eq, dkAdd]

theorem dvAdd_sum (R : Reads p a h g) (e : Fin 2) (J : Fin 4) (d : Fin 64) (y : Fin 256) :
    (∑ i : Fin 4, if J ≤ i then dvAdd p e i J (ix2 d y) else 0) =
      ∑ t, a.dO t (head (g e) h) d * a.dsc t * a.prob (g e) h t (pos J y) := by
  rw [sum_pos]
  refine Finset.sum_congr rfl fun i _ => ?_
  by_cases hJ : J ≤ i
  · rw [if_pos hJ]
    exact Finset.sum_congr rfl fun x _ => by
      show p.dwPay e i (ix3 0 d x) * p.prob e i J (ix2 y x) = _
      rw [dwPay_eq R, prob_eq R e i J hJ]
  · rw [if_neg hJ]
    refine (Finset.sum_eq_zero fun x _ => ?_).symm
    have : i.val < J.val := not_le.mp hJ
    rw [Args.prob, if_neg (by show ¬ 256 * J.val + y.val ≤ 256 * i.val + x.val; omega), mul_zero]

theorem dkAdd_sum (R : Reads p a h g) (h0 : ∀ s, 0 ≤ a.dsc s) (ht : ∀ s, a.dsc s ≠ ⊤) (e : Fin 2) (J : Fin 4) (d : Fin 64) (y : Fin 256) :
    (∑ i : Fin 4, if J ≤ i then dkAdd p e i J (ix2 d y) else 0) =
      ∑ t, a.q t (head (g e) h) d * a.qs (head (g e) h) * a.dscore (g e) h t (pos J y) := by
  rw [sum_pos]
  refine Finset.sum_congr rfl fun i _ => ?_
  by_cases hJ : J ≤ i
  · rw [if_pos hJ]
    exact Finset.sum_congr rfl fun x _ => by
      show p.qwPay e i (ix3 0 d x) * p.dscore e i J (ix2 y x) = _
      rw [qwPay_eq R, dscore_eq R h0 ht e i J hJ]
  · rw [if_neg hJ]
    refine (Finset.sum_eq_zero fun x _ => ?_).symm
    have : i.val < J.val := not_le.mp hJ
    rw [Args.dscore, Args.prob, if_neg (by show ¬ 256 * J.val + y.val ≤ 256 * i.val + x.val; omega), zero_mul, mul_zero]

/-- The running sum of the query gradient over the first key blocks. -/
theorem dqAcc_eq (R : Reads p a h g) (h0 : ∀ s, 0 ≤ a.dsc s) (ht : ∀ s, a.dsc s ≠ ⊤) (e : Fin 2) (i : Fin 4) (d : Fin 64) (x : Fin 256) :
    ∀ n : ℕ, n ≤ i.val → p.dqAcc e i n (ix2 d x) =
      ∑ j : Fin 4, if j.val ≤ n then ∑ y : Fin 256, a.k (pos j y) h d * a.dscore (g e) h (pos i x) (pos j y) else 0
  | 0, _ => by
    pointwise [Opnds.dqAcc]
    simp only [Fin.sum_univ_four, R.kt, dscore_eq R h0 ht e i 0 (Fin.zero_le _)]
    simp
  | n + 1, hn => by
    have ih := dqAcc_eq R h0 ht e i d x n (by omega)
    have hn4 : n + 1 < 4 := by omega
    have hj : Fin.ofNat 4 (n + 1) ≤ i := by
      show (n + 1) % 4 ≤ i.val
      omega
    have e1 : p.dqAcc e i (n + 1) (ix2 d x) = (p.dqAcc e i n (ix2 d x) +
        ∑ y : Fin 256, p.kt (Fin.ofNat 4 (n + 1)) (ix2 d y) * p.dscore e i (Fin.ofNat 4 (n + 1)) (ix2 y x) : EReal) := by
      rw [Opnds.dqAcc]
      pointwise
    rw [e1, ih]
    simp only [R.kt, dscore_eq R h0 ht e i _ hj]
    obtain rfl | rfl | rfl : n = 0 ∨ n = 1 ∨ n = 2 := by omega
    all_goals
      simp only [Fin.sum_univ_four]
      simp [Fin.ofNat]

/-- A stored block of the query gradient is the query gradient. -/
theorem dqPay_eq (R : Reads p a h g) (h0 : ∀ s, 0 ≤ a.dsc s) (ht : ∀ s, a.dsc s ≠ ⊤) (e : Fin 2) (i : Fin 4) (d : Fin 64) (x : Fin 256) :
    p.dqPay e i (ix4 0 0 d x) = a.dq (g e) h d (pos i x) := by
  have e1 : p.dqPay e i (ix4 0 0 d x) = (p.dqAcc e i i.val (ix2 d x) * (p.kc * Ideal.ofBits .f32 0x3E000000#32) : EReal) := by
    pointwise [Opnds.dqPay]
  rw [e1, dqAcc_eq R h0 ht e i d x i.val le_rfl, R.kc, ofBits_eighth, Args.dq, sum_pos]
  refine congrArg (· * _) (Finset.sum_congr rfl fun j _ => ?_)
  by_cases hj : j.val ≤ i.val
  · rw [if_pos hj]
  · rw [if_neg hj]
    refine (Finset.sum_eq_zero fun y _ => ?_).symm
    rw [Args.dscore, Args.prob, if_neg (by show ¬ 256 * j.val + y.val ≤ 256 * i.val + x.val; omega), zero_mul, mul_zero]

end Cert.Own

end
-- ==== Proof.Steps.lean ====
/- What one step leaves, read at an index: its query gradients, and its key and value accumulators over what they held. -/
module

public import proofs.«01_k».proof.Proof.Tile

@[expose] public section

set_option maxRecDepth 16384

noncomputable section

namespace Cert.Own

open Cert.KernelIdeal Cert.KernelIdeal.Gen
open Idealize.ShloMosaic Idealize.SL.Sem

namespace Args
variable (a : Args)

/-- The part of the key gradient that comes from group `g`, before the factor one eighth. -/
def dkPart (g : Fin 8) (h : Fin 4) (d : Fin 64) (j : Fin 1024) : EReal :=
  ∑ i, a.q i (head g h) d * a.qs (head g h) * a.dscore g h i j

/-- The part of the value gradient that comes from group `g`. -/
def dvPart (g : Fin 8) (h : Fin 4) (d : Fin 64) (j : Fin 1024) : EReal :=
  ∑ i, a.dO i (head g h) d * a.dsc i * a.prob g h i j

end Args

/-- Every position lies in a block. -/
theorem exists_pos (s : Fin 1024) : ∃ (J : Fin 4) (y : Fin 256), s = pos J y :=
  ⟨⟨s.val / 256, by omega⟩, ⟨s.val % 256, by omega⟩, Fin.ext (by show s.val = 256 * (s.val / 256) + s.val % 256; omega)⟩

theorem R64_emb (J : Fin 4) (d : Fin 64) (y : Fin 256) : (R64 J).emb (ix2 d y) = ix2 d (pos J y) :=
  idx2_ext (by show 0 + 1 * d.val = d.val; omega) (by show 256 * J.val + 1 * y.val = 256 * J.val + y.val; omega)

theorem RB64_emb (e : Fin 2) (i : Fin 4) (d : Fin 64) (x : Fin 256) :
    (RB64 e i).emb (ix4 0 0 d x) = ix4 e 0 d (pos i x) :=
  idx4_ext (by show e.val + 1 * 0 = e.val; omega) (by show 0 + 1 * 0 = 0; omega) (by show 0 + 1 * d.val = d.val; omega)
    (by show 256 * i.val + 1 * x.val = 256 * i.val + x.val; omega)

variable {p : Opnds Ideal} {a : Args} {h : Fin 4} {g : Fin 2 → Fin 8}

/-- A step stores the query gradients of its two heads. -/
theorem dq_step (R : Reads p a h g) (h0 : ∀ s, 0 ≤ a.dsc s) (ht : ∀ s, a.dsc s ≠ ⊤) (e : Fin 2) (d : Fin 64) (s : Fin 1024) :
    View.canon p.stDq (ix4 e 0 d s) = a.dq (g e) h d s := by
  obtain ⟨J, y, rfl⟩ := exists_pos s
  rw [← RB64_emb, stDq_canon, dqPay_eq R h0 ht]

/-- A step over a stored key accumulator adds its two groups' parts. -/
theorem dk_step_over (R : Reads p a h g) (h0 : ∀ s, 0 ≤ a.dsc s) (ht : ∀ s, a.dsc s ≠ ⊤) (v : View sig .tc .vmem S64x1024 .f32)
    (f : v.ty.Contents (Elt Ideal)) (d : Fin 64) (s : Fin 1024) :
    View.canon (Opnds.stAcc p.dkUpd (Opnds.ldOver v f) [] Opnds.tiles) (ix2 d s)
      = (v.read (Elt Ideal) f (ix2 d s) + ∑ e, a.dkPart (g e) h d s : EReal) := by
  obtain ⟨J, y, rfl⟩ := exists_pos s
  rw [← R64_emb, canon_stAcc_over p.dkUpd (dkAdd p) (dkUpd_eq (p := p)) v f J _ _ firstVisits_tiles (tiles_touch J), contrib_tiles]
  refine congrArg (_ + ·) (Finset.sum_congr rfl fun e _ => ?_)
  exact dkAdd_sum R h0 ht e J d y

/-- A step over a stored value accumulator adds its two groups' parts. -/
theorem dv_step_over (R : Reads p a h g) (v : View sig .tc .vmem S64x1024 .f32)
    (f : v.ty.Contents (Elt Ideal)) (d : Fin 64) (s : Fin 1024) :
    View.canon (Opnds.stAcc p.dvUpd (Opnds.ldOver v f) [] Opnds.tiles) (ix2 d s)
      = (v.read (Elt Ideal) f (ix2 d s) + ∑ e, a.dvPart (g e) h d s : EReal) := by
  obtain ⟨J, y, rfl⟩ := exists_pos s
  rw [← R64_emb, canon_stAcc_over p.dvUpd (dvAdd p) (dvUpd_eq (p := p)) v f J _ _ firstVisits_tiles (tiles_touch J), contrib_tiles]
  refine congrArg (_ + ·) (Finset.sum_congr rfl fun e _ => ?_)
  exact dvAdd_sum R e J d y

/-- A step over a key accumulator it has set to `Z`. -/
theorem dk_step_set (R : Reads p a h g) (h0 : ∀ s, 0 ≤ a.dsc s) (ht : ∀ s, a.dsc s ≠ ⊤) (v : View sig .tc .vmem S64x1024 .f32)
    (bot : List (View.Piece (Elt Ideal) S64x1024 .f32)) (d : Fin 64) (s : Fin 1024) :
    View.canon (Opnds.stAcc p.dkUpd (Opnds.ldAll v) bot Opnds.tiles) (ix2 d s)
      = (View.canon bot (ix2 d s) + ∑ e, a.dkPart (g e) h d s : EReal) := by
  obtain ⟨J, y, rfl⟩ := exists_pos s
  rw [← R64_emb, canon_stAcc_all p.dkUpd (dkAdd p) (dkUpd_eq (p := p)) v bot J _ _, contrib_tiles]
  refine congrArg (_ + ·) (Finset.sum_congr rfl fun e _ => ?_)
  exact dkAdd_sum R h0 ht e J d y

/-- A step over a value accumulator it has set to `Z`. -/
theorem dv_step_set (R : Reads p a h g) (v : View sig .tc .vmem S64x1024 .f32)
    (bot : List (View.Piece (Elt Ideal) S64x1024 .f32)) (d : Fin 64) (s : Fin 1024) :
    View.canon (Opnds.stAcc p.dvUpd (Opnds.ldAll v) bot Opnds.tiles) (ix2 d s)
      = (View.canon bot (ix2 d s) + ∑ e, a.dvPart (g e) h d s : EReal) := by
  obtain ⟨J, y, rfl⟩ := exists_pos s
  rw [← R64_emb, canon_stAcc_all p.dvUpd (dvAdd p) (dvUpd_eq (p := p)) v bot J _ _, contrib_tiles]
  refine congrArg (_ + ·) (Finset.sum_congr rfl fun e _ => ?_)
  exact dvAdd_sum R e J d y

end Cert.Own

end
-- ==== Proof.Operands.lean ====
/- The operands of a step read the argument arrays, when its blocks hold them and the keys and values it finds in
   scratch are those of its key head. -/
module

public import proofs.«01_k».proof.Proof.Bridge
public import proofs.«01_k».proof.Proof.Steps
public import Idealize.ShloMosaic.Lib.WholeRead

@[expose] public section

set_option maxRecDepth 16384

noncomputable section

namespace Cert.Own

open Cert.KernelIdeal Cert.KernelIdeal.Gen
open Idealize.ShloMosaic Idealize.SL.Sem

variable (i : grid0.Coords)
variable (arg2 : Memref sig .tc .smem S32 .f32) (harg2 : arg2.IsWhole)
variable (arg3 : Memref sig .tc .smem S4 .f32) (harg3 : arg3.IsWhole)
variable (arg4 : Memref sig .tc .smem S4 .f32) (harg4 : arg4.IsWhole)
variable (arg5 : Memref sig .tc .vmem S2x1x64x1024 .fp8e4m3) (harg5 : arg5.IsWhole)
variable (arg6 : Memref sig .tc .vmem S1x64x1024 .fp8e4m3) (harg6 : arg6.IsWhole)
variable (arg7 : Memref sig .tc .vmem S1x64x1024 .fp8e4m3) (harg7 : arg7.IsWhole)
variable (arg8 : Memref sig .tc .vmem S2x1x64x1024 .bf16) (harg8 : arg8.IsWhole)
variable (arg9 : Memref sig .tc .vmem S2x1x1x1024 .f32) (harg9 : arg9.IsWhole)
variable (arg10 : Memref sig .tc .vmem S2x1x64x1024 .fp8e5m2) (harg10 : arg10.IsWhole)
variable (arg11 : Memref sig .tc .vmem S1x1024 .f32) (harg11 : arg11.IsWhole)
variable (arg12 : Memref sig .tc .vmem S2x1x64x1024 .bf16) (harg12 : arg12.IsWhole)
variable (arg13 : Memref sig .tc .vmem S1x64x1024 .bf16) (harg13 : arg13.IsWhole)
variable (arg14 : Memref sig .tc .vmem S1x64x1024 .bf16) (harg14 : arg14.IsWhole)
variable (arg15 : Memref sig .tc .vmem S1024x64 .fp8e4m3) (harg15 : arg15.IsWhole)
variable (arg16 : Memref sig .tc .vmem S64x1024 .bf16) (harg16 : arg16.IsWhole)
variable (arg17 : Memref sig .tc .vmem S1024x64 .bf16) (harg17 : arg17.IsWhole)
variable (arg18 : Memref sig .tc .vmem S2x64x1024 .bf16) (harg18 : arg18.IsWhole)
variable (arg19 : Memref sig .tc .vmem S2x64x1024 .bf16) (harg19 : arg19.IsWhole)
variable (arg20 : Memref sig .tc .vmem S2x64x1024 .bf16) (harg20 : arg20.IsWhole)
variable (arg21 : Memref sig .tc .vmem S2x1x1024 .f32) (harg21 : arg21.IsWhole)
variable (arg22 : Memref sig .tc .vmem S2x1x1024 .f32) (harg22 : arg22.IsWhole)
variable (arg23 : Memref sig .tc .vmem S1x1024 .f32) (harg23 : arg23.IsWhole)
variable (arg24 : Memref sig .tc .vmem S64x1024 .f32) (harg24 : arg24.IsWhole)
variable (arg25 : Memref sig .tc .vmem S64x1024 .f32) (harg25 : arg25.IsWhole)
variable (x0 : Vec Ideal S32 .f32) (x1 : Vec Ideal S4 .f32) (x2 : Vec Ideal S4 .f32) (x3 : Vec Ideal S2x1x64x1024 .fp8e4m3) (x4 : Vec Ideal S1x64x1024 .fp8e4m3) (x5 : Vec Ideal S1x64x1024 .fp8e4m3) (x6 : Vec Ideal S2x1x64x1024 .bf16) (x7 : Vec Ideal S2x1x1x1024 .f32) (x8 : Vec Ideal S2x1x64x1024 .fp8e5m2) (x9 : Vec Ideal S1x1024 .f32)
variable (xs0 : Vec Ideal S1024x64 .fp8e4m3) (xs1 : Vec Ideal S64x1024 .bf16) (xs2 : Vec Ideal S1024x64 .bf16) (xs9 : Vec Ideal S64x1024 .f32) (xs10 : Vec Ideal S64x1024 .f32)

/-- The input blocks of a step hold the arrays of `a`: key head `h`, and query head `g e` of its group for each of the
    step's two heads `e`. -/
structure BlockReads (a : Args) (h : Fin 4) (g : Fin 2 → Fin 8) : Prop where
  off1 : k0_off1 i = ![h.val]
  off20 : k0_off2 i 0#32 = ![(head (g 0) h).val]
  off21 : k0_off2 i 1#32 = ![(head (g 1) h).val]
  b0 : ∀ n, x0 (ix1 n) = a.qs n
  b1 : ∀ n, x1 (ix1 n) = a.ks n
  b2 : ∀ n, x2 (ix1 n) = a.vs n
  b3 : ∀ e d s, x3 (ix4 e 0 d s) = a.q s (head (g e) h) d
  b4 : ∀ d s, x4 (ix3 0 d s) = a.k s h d
  b5 : ∀ d s, x5 (ix3 0 d s) = a.v s h d
  b6 : ∀ e d s, x6 (ix4 e 0 d s) = a.o s (head (g e) h) d
  b7 : ∀ e s, x7 (ix4 e 0 0 s) = a.lse (head (g e) h) s
  b8 : ∀ e d s, x8 (ix4 e 0 d s) = a.dO s (head (g e) h) d
  b9 : ∀ s, x9 (ix2 0 s) = a.dsc s

/-- The three carried buffers hold the keys, twice, and the values of key head `h`. -/
structure Carried (a : Args) (h : Fin 4) : Prop where
  kn : ∀ s d, xs0 (ix2 s d) = a.k s h d
  kt : ∀ d s, xs1 (ix2 d s) = a.k s h d
  vn : ∀ s d, xs2 (ix2 s d) = a.v s h d

theorem RRow_emb (J : Fin 4) (y : Fin 256) (d : Fin 64) : (RRow J).emb (ix2 y d) = ix2 (pos J y) d :=
  idx2_ext (by show 256 * J.val + 1 * y.val = 256 * J.val + y.val; omega) (by show 0 + 1 * d.val = d.val; omega)

theorem RB1_emb (e : Fin 2) (i : Fin 4) (x : Fin 256) : (RB1 e i).emb (ix4 0 0 0 x) = ix4 e 0 0 (pos i x) :=
  idx4_ext (by show e.val + 1 * 0 = e.val; omega) (by show 0 + 1 * 0 = 0; omega) (by show 0 + 1 * 0 = 0; omega)
    (by show 256 * i.val + 1 * x.val = 256 * i.val + x.val; omega)

/-- One scalar read out of a whole buffer of four. -/
theorem scalar4 (off : Fin 1 → ℕ) (n : Fin 4) (hoff : off = ![n.val]) (inb : ∀ b, off b + S1.size b ≤ S4.size b)
    (w : Memref sig .tc .smem S4 .f32) (hw : w.IsWhole) (X : Vec Ideal S4 .f32) :
    w.view.readAt (Elt Ideal) (Rect.unit (s := S4) off S1.size inb).toLoadRect (hw.unread X)
      (Shape.Idx.first (numel1_S1.symm ▸ Nat.one_pos)) = X (ix1 n) := by
  subst hoff
  rw [Memref.IsWhole.readAt_unread]
  exact congrArg X (idx1_ext (by show n.val + 1 * 0 = n.val; omega))

/-- One scalar read out of a whole buffer of thirty-two. -/
theorem scalar32 (off : Fin 1 → ℕ) (n : Fin 32) (hoff : off = ![n.val]) (inb : ∀ b, off b + S1.size b ≤ S32.size b)
    (w : Memref sig .tc .smem S32 .f32) (hw : w.IsWhole) (X : Vec Ideal S32 .f32) :
    w.view.readAt (Elt Ideal) (Rect.unit (s := S32) off S1.size inb).toLoadRect (hw.unread X)
      (Shape.Idx.first (numel1_S1.symm ▸ Nat.one_pos)) = X (ix1 n) := by
  subst hoff
  rw [Memref.IsWhole.readAt_unread]
  exact congrArg X (idx1_ext (by show n.val + 1 * 0 = n.val; omega))

variable {a : Args} {h : Fin 4} {g : Fin 2 → Fin 8}

/-- The operands of a step read the arrays, given that its keys and values do. -/
theorem reads_opnds (B : BlockReads i x0 x1 x2 x3 x4 x5 x6 x7 x8 x9 a h g)
    (kn : Fin 4 → Vec Ideal S256x64 .fp8e4m3) (kt : Fin 4 → Vec Ideal S64x256 .bf16) (vn : Fin 4 → Vec Ideal S256x64 .bf16)
    (hkn : ∀ j y d, kn j (ix2 y d) = a.k (pos j y) h d) (hkt : ∀ j d y, kt j (ix2 d y) = a.k (pos j y) h d)
    (hvn : ∀ j y d, vn j (ix2 y d) = a.v (pos j y) h d) :
    Reads (opnds i arg2 harg2 arg3 harg3 arg4 harg4 arg5 harg5 arg8 harg8 arg9 harg9 arg10 harg10 arg11 harg11 arg18 arg19 arg20 arg21 arg22 arg23 x0 x1 x2 x3 x6 x7 x8 x9 kn kt vn) a h g where
  kc := (scalar4 _ h B.off1 _ _ _ _).trans (B.b1 h)
  vc := (scalar4 _ h B.off1 _ _ _ _).trans (B.b2 h)
  qc e := match e with
    | 0 => (scalar32 _ _ B.off20 _ _ _ _).trans (B.b0 _)
    | 1 => (scalar32 _ _ B.off21 _ _ _ _).trans (B.b0 _)
  kn := hkn
  kt := hkt
  vn := hvn
  q e i d x := (harg5.readAt_unread x3 (RB64 e i).toLoadRect _).trans ((congrArg x3 (RB64_emb e i d x)).trans (B.b3 e d _))
  dO e i d x := (harg10.readAt_unread x8 (RB64 e i).toLoadRect _).trans ((congrArg x8 (RB64_emb e i d x)).trans (B.b8 e d _))
  o e i d x := (harg8.readAt_unread x6 (RB64 e i).toLoadRect _).trans ((congrArg x6 (RB64_emb e i d x)).trans (B.b6 e d _))
  lse e i x := (harg9.readAt_unread x7 (RB1 e i).toLoadRect _).trans ((congrArg x7 (RB1_emb e i x)).trans (B.b7 e _))
  dsc s := (harg11.readAt_unread x9 _ _).trans
    ((congrArg x9 (idx2_ext (by show 0 + 1 * 0 = 0; omega) (by show 0 + 1 * s.val = s.val; omega))).trans (B.b9 s))

/-- The operands of a later step, over carried keys and values. -/
theorem reads_over (B : BlockReads i x0 x1 x2 x3 x4 x5 x6 x7 x8 x9 a h g) (K : Carried xs0 xs1 xs2 a h) :
    Reads (opndsOver i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x6 x7 x8 x9 xs0 xs1 xs2) a h g :=
  reads_opnds i arg2 harg2 arg3 harg3 arg4 harg4 arg5 harg5 arg8 harg8 arg9 harg9 arg10 harg10 arg11 harg11 arg18 arg19 arg20
    arg21 arg22 arg23 x0 x1 x2 x3 x4 x5 x6 x7 x8 x9 B _ _ _
    (fun j y d => (harg15.readAt_unread xs0 (RRow j).toLoadRect _).trans ((congrArg xs0 (RRow_emb j y d)).trans (K.kn _ d)))
    (fun j d y => (harg16.readAt_unread xs1 (R64 j).toLoadRect _).trans ((congrArg xs1 (R64_emb j d y)).trans (K.kt d _)))
    (fun j y d => (harg17.readAt_unread xs2 (RRow j).toLoadRect _).trans ((congrArg xs2 (RRow_emb j y d)).trans (K.vn _ d)))

/-- The block stored whole in scratch, transposed or not, holds the keys or the values. -/
theorem carried_fresh (B : BlockReads i x0 x1 x2 x3 x4 x5 x6 x7 x8 x9 a h g) :
    Carried (View.canon (st15 arg6 harg6 x4)) (View.canon (st16 arg6 harg6 x4)) (View.canon (st17 arg7 harg7 x5)) a h where
  kn s d := by
    unfold st15
    rw [View.canon_cons_unit_zero (by funext a; fin_cases a <;> rfl)]
    pointwise [k0_pay6, k0_pay4]
    rw [Memref.IsWhole.readAt_unread, ← B.b4]
    exact congrArg x4 (idx3_ext (by show 0 + 1 * 0 = 0; omega) (by show 0 + 1 * d.val = d.val; omega) (by show 0 + 1 * s.val = s.val; omega))
  kt d s := by
    unfold st16
    rw [View.canon_cons_unit_zero (by funext a; fin_cases a <;> rfl)]
    pointwise [k0_pay5, k0_pay4]
    rw [Memref.IsWhole.readAt_unread, ← B.b4]
    exact congrArg x4 (idx3_ext (by show 0 + 1 * 0 = 0; omega) (by show 0 + 1 * d.val = d.val; omega) (by show 0 + 1 * s.val = s.val; omega))
  vn s d := by
    unfold st17
    rw [View.canon_cons_unit_zero (by funext a; fin_cases a <;> rfl)]
    pointwise [k0_pay7]
    rw [Memref.IsWhole.readAt_unread, ← B.b5]
    exact congrArg x5 (idx3_ext (by show 0 + 1 * 0 = 0; omega) (by show 0 + 1 * d.val = d.val; omega) (by show 0 + 1 * s.val = s.val; omega))

/-- The operands of a first step, which stores its keys and values before reading them. -/
theorem reads_fresh (B : BlockReads i x0 x1 x2 x3 x4 x5 x6 x7 x8 x9 a h g) :
    Reads (opndsFresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9) a h g := by
  have K := carried_fresh i arg6 harg6 arg7 harg7 x0 x1 x2 x3 x4 x5 x6 x7 x8 x9 B
  refine reads_opnds i arg2 harg2 arg3 harg3 arg4 harg4 arg5 harg5 arg8 harg8 arg9 harg9 arg10 harg10 arg11 harg11 arg18 arg19 arg20
    arg21 arg22 arg23 x0 x1 x2 x3 x4 x5 x6 x7 x8 x9 B _ _ _ ?_ ?_ ?_
  · intro j y d
    rw [View.readCov_eq_canon']
    exact (congrArg _ (RRow_emb j y d)).trans (K.kn _ d)
  · intro j d y
    rw [View.readCov_eq_canon']
    exact (congrArg _ (R64_emb j d y)).trans (K.kt d _)
  · intro j y d
    rw [View.readCov_eq_canon']
    exact (congrArg _ (RRow_emb j y d)).trans (K.vn _ d)

end Cert.Own

end
-- ==== Proof.Outs.lean ====
/- What a step leaves in each array it writes, read at an index, in each of the three kinds of step. -/
module

public import proofs.«01_k».proof.Proof.Operands

@[expose] public section

set_option maxRecDepth 16384

noncomputable section

namespace Cert.Own

open Cert.KernelIdeal Cert.KernelIdeal.Gen
open Idealize.ShloMosaic Idealize.SL.Sem

variable (c : Dev nD) (i : grid0.Coords)
variable (arg2 : Memref sig .tc .smem S32 .f32) (harg2 : arg2.IsWhole)
variable (arg3 : Memref sig .tc .smem S4 .f32) (harg3 : arg3.IsWhole)
variable (arg4 : Memref sig .tc .smem S4 .f32) (harg4 : arg4.IsWhole)
variable (arg5 : Memref sig .tc .vmem S2x1x64x1024 .fp8e4m3) (harg5 : arg5.IsWhole)
variable (arg6 : Memref sig .tc .vmem S1x64x1024 .fp8e4m3) (harg6 : arg6.IsWhole)
variable (arg7 : Memref sig .tc .vmem S1x64x1024 .fp8e4m3) (harg7 : arg7.IsWhole)
variable (arg8 : Memref sig .tc .vmem S2x1x64x1024 .bf16) (harg8 : arg8.IsWhole)
variable (arg9 : Memref sig .tc .vmem S2x1x1x1024 .f32) (harg9 : arg9.IsWhole)
variable (arg10 : Memref sig .tc .vmem S2x1x64x1024 .fp8e5m2) (harg10 : arg10.IsWhole)
variable (arg11 : Memref sig .tc .vmem S1x1024 .f32) (harg11 : arg11.IsWhole)
variable (arg12 : Memref sig .tc .vmem S2x1x64x1024 .bf16) (harg12 : arg12.IsWhole)
variable (arg13 : Memref sig .tc .vmem S1x64x1024 .bf16) (harg13 : arg13.IsWhole)
variable (arg14 : Memref sig .tc .vmem S1x64x1024 .bf16) (harg14 : arg14.IsWhole)
variable (arg15 : Memref sig .tc .vmem S1024x64 .fp8e4m3) (harg15 : arg15.IsWhole)
variable (arg16 : Memref sig .tc .vmem S64x1024 .bf16) (harg16 : arg16.IsWhole)
variable (arg17 : Memref sig .tc .vmem S1024x64 .bf16) (harg17 : arg17.IsWhole)
variable (arg18 : Memref sig .tc .vmem S2x64x1024 .bf16) (harg18 : arg18.IsWhole)
variable (arg19 : Memref sig .tc .vmem S2x64x1024 .bf16) (harg19 : arg19.IsWhole)
variable (arg20 : Memref sig .tc .vmem S2x64x1024 .bf16) (harg20 : arg20.IsWhole)
variable (arg21 : Memref sig .tc .vmem S2x1x1024 .f32) (harg21 : arg21.IsWhole)
variable (arg22 : Memref sig .tc .vmem S2x1x1024 .f32) (harg22 : arg22.IsWhole)
variable (arg23 : Memref sig .tc .vmem S1x1024 .f32) (harg23 : arg23.IsWhole)
variable (arg24 : Memref sig .tc .vmem S64x1024 .f32) (harg24 : arg24.IsWhole)
variable (arg25 : Memref sig .tc .vmem S64x1024 .f32) (harg25 : arg25.IsWhole)
variable (x0 : Vec Ideal S32 .f32) (x1 : Vec Ideal S4 .f32) (x2 : Vec Ideal S4 .f32) (x3 : Vec Ideal S2x1x64x1024 .fp8e4m3) (x4 : Vec Ideal S1x64x1024 .fp8e4m3) (x5 : Vec Ideal S1x64x1024 .fp8e4m3) (x6 : Vec Ideal S2x1x64x1024 .bf16) (x7 : Vec Ideal S2x1x1x1024 .f32) (x8 : Vec Ideal S2x1x64x1024 .fp8e5m2) (x9 : Vec Ideal S1x1024 .f32)
variable (xs0 : Vec Ideal S1024x64 .fp8e4m3) (xs1 : Vec Ideal S64x1024 .bf16) (xs2 : Vec Ideal S1024x64 .bf16) (xs9 : Vec Ideal S64x1024 .f32) (xs10 : Vec Ideal S64x1024 .f32)
variable {a : Args} {h : Fin 4} {g : Fin 2 → Fin 8}

theorem zero_dk (x : S64x1024.Idx) (inb : ∀ b, (![0, 0] : Fin 2 → ℕ) b + S64x1024.size b ≤ S64x1024.size b) :
    View.canon [(⟨Rect.unit (s := S64x1024) ![0, 0] S64x1024.size inb, k0_pay8 (F := Ideal)⟩ : View.Piece (Elt Ideal) S64x1024 .f32)] x = (0 : EReal) := by
  rw [View.canon_cons_unit_zero (by funext a; fin_cases a <;> rfl)]
  exact Ideal.ofBits_zero_f32

theorem zero_dv (x : S64x1024.Idx) (inb : ∀ b, (![0, 0] : Fin 2 → ℕ) b + S64x1024.size b ≤ S64x1024.size b) :
    View.canon [(⟨Rect.unit (s := S64x1024) ![0, 0] S64x1024.size inb, k0_pay9 (F := Ideal)⟩ : View.Piece (Elt Ideal) S64x1024 .f32)] x = (0 : EReal) := by
  rw [View.canon_cons_unit_zero (by funext a; fin_cases a <;> rfl)]
  exact Ideal.ofBits_zero_f32

/-- The last store of a key head's key gradient: what its list holds, times one eighth. -/
theorem pay2_at (v : View sig .tc .vmem S64x1024 .f32) (L : List (View.Piece (Elt Ideal) S64x1024 .f32))
    (inb : ∀ b, (![0, 0] : Fin 2 → ℕ) b + S64x1024.size b ≤ S64x1024.size b) (d : Fin 64) (s : Fin 1024) :
    View.canon [(⟨Rect.unit (s := S1x64x1024) ![0, 0, 0] S1x64x1024.size inbK,
      k0_pay2 (v.readCov L (Rect.unit (s := S64x1024) ![0, 0] S64x1024.size inb).toLoadRect)⟩ : View.Piece (Elt Ideal) S1x64x1024 .bf16)]
      (ix3 0 d s) = (View.canon L (ix2 d s) * eighth : EReal) := by
  rw [View.canon_cons_unit_zero (by funext a; fin_cases a <;> rfl)]
  pointwise [k0_pay2]
  rw [View.readCov_eq_canon', ofBits_eighth]
  exact congrArg (View.canon L · * eighth) (idx2_ext (by show 0 + 1 * d.val = d.val; omega) (by show 0 + 1 * s.val = s.val; omega))

/-- The last store of a key head's value gradient: what its list holds. -/
theorem pay3_at (v : View sig .tc .vmem S64x1024 .f32) (L : List (View.Piece (Elt Ideal) S64x1024 .f32))
    (inb : ∀ b, (![0, 0] : Fin 2 → ℕ) b + S64x1024.size b ≤ S64x1024.size b) (d : Fin 64) (s : Fin 1024) :
    View.canon [(⟨Rect.unit (s := S1x64x1024) ![0, 0, 0] S1x64x1024.size inbK,
      k0_pay3 (v.readCov L (Rect.unit (s := S64x1024) ![0, 0] S64x1024.size inb).toLoadRect)⟩ : View.Piece (Elt Ideal) S1x64x1024 .bf16)]
      (ix3 0 d s) = (View.canon L (ix2 d s) : EReal) := by
  rw [View.canon_cons_unit_zero (by funext a; fin_cases a <;> rfl)]
  pointwise [k0_pay3]
  rw [View.readCov_eq_canon']
  exact congrArg (View.canon L) (idx2_ext (by show 0 + 1 * d.val = d.val; omega) (by show 0 + 1 * s.val = s.val; omega))

/-- A first step leaves the query gradients of its two heads. -/
theorem outA_dq (hc0 : cond0_0 i) (hc1 : ¬cond0_1 i) (B : BlockReads i x0 x1 x2 x3 x4 x5 x6 x7 x8 x9 a h g)
    (h0 : ∀ s, 0 ≤ a.dsc s) (ht : ∀ s, a.dsc s ≠ ⊤) (e : Fin 2) (d : Fin 64) (s : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 (ix4 e 0 d s) = a.dq (g e) h d s := by
  rw [out0_A_10, View.read_writes_junk_eq_canon, runA_dq]
  exact dq_step (reads_fresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9 B) h0 ht e d s

/-- A first step leaves its own two groups' parts in the key-gradient accumulator. -/
theorem outA_dk (hc0 : cond0_0 i) (hc1 : ¬cond0_1 i) (B : BlockReads i x0 x1 x2 x3 x4 x5 x6 x7 x8 x9 a h g)
    (h0 : ∀ s, 0 ≤ a.dsc s) (ht : ∀ s, a.dsc s ≠ ⊤) (d : Fin 64) (s : Fin 1024) :
    sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 (ix2 d s) = (∑ e, a.dkPart (g e) h d s : EReal) := by
  rw [sout0_A_9, View.read_writes_junk_eq_canon, runA_dk, dk_step_set (reads_fresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9 B) h0 ht , zero_dk, zero_add]

/-- A first step leaves its own two groups' parts in the value-gradient accumulator. -/
theorem outA_dv (hc0 : cond0_0 i) (hc1 : ¬cond0_1 i) (B : BlockReads i x0 x1 x2 x3 x4 x5 x6 x7 x8 x9 a h g)
     (d : Fin 64) (s : Fin 1024) :
    sout0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 (ix2 d s) = (∑ e, a.dvPart (g e) h d s : EReal) := by
  rw [sout0_A_10, View.read_writes_junk_eq_canon, runA_dv, dv_step_set (reads_fresh i arg2 harg2 arg3 harg3 arg4 harg4 arg5 harg5 arg6 harg6 arg7 harg7 arg8 harg8 arg9 harg9 arg10 harg10 arg11 harg11 arg15 arg16 arg17 arg18 arg19 arg20 arg21 arg22 arg23 x0 x1 x2 x3 x4 x5 x6 x7 x8 x9 B) , zero_dv, zero_add]

/-- A middle step leaves the query gradients of its two heads. -/
theorem outB_dq (hc0 : ¬cond0_0 i) (hc1 : ¬cond0_1 i) (B : BlockReads i x0 x1 x2 x3 x4 x5 x6 x7 x8 x9 a h g) (K : Carried xs0 xs1 xs2 a h)
    (h0 : ∀ s, 0 ≤ a.dsc s) (ht : ∀ s, a.dsc s ≠ ⊤) (e : Fin 2) (d : Fin 64) (s : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix4 e 0 d s) = a.dq (g e) h d s := by
  rw [out0_B_10, View.read_writes_junk_eq_canon, runB_dq]
  exact dq_step (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) h0 ht e d s

/-- A middle step adds its own two groups' parts to the key-gradient accumulator. -/
theorem outB_dk (hc0 : ¬cond0_0 i) (hc1 : ¬cond0_1 i) (B : BlockReads i x0 x1 x2 x3 x4 x5 x6 x7 x8 x9 a h g) (K : Carried xs0 xs1 xs2 a h)
    (h0 : ∀ s, 0 ≤ a.dsc s) (ht : ∀ s, a.dsc s ≠ ⊤) (d : Fin 64) (s : Fin 1024) :
    sout0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix2 d s) = (xs9 (ix2 d s) + ∑ e, a.dkPart (g e) h d s : EReal) := by
  rw [sout0_B_9, View.read_writes_junk_eq_canon, runB_dk, dk_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) h0 ht , harg24.read_unread]

/-- A middle step adds its own two groups' parts to the value-gradient accumulator. -/
theorem outB_dv (hc0 : ¬cond0_0 i) (hc1 : ¬cond0_1 i) (B : BlockReads i x0 x1 x2 x3 x4 x5 x6 x7 x8 x9 a h g) (K : Carried xs0 xs1 xs2 a h)
     (d : Fin 64) (s : Fin 1024) :
    sout0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix2 d s) = (xs10 (ix2 d s) + ∑ e, a.dvPart (g e) h d s : EReal) := by
  rw [sout0_B_10, View.read_writes_junk_eq_canon, runB_dv, dv_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) , harg25.read_unread]

/-- A last step leaves the query gradients of its two heads. -/
theorem outC_dq (hc0 : ¬cond0_0 i) (hc1 : cond0_1 i) (B : BlockReads i x0 x1 x2 x3 x4 x5 x6 x7 x8 x9 a h g) (K : Carried xs0 xs1 xs2 a h)
    (h0 : ∀ s, 0 ≤ a.dsc s) (ht : ∀ s, a.dsc s ≠ ⊤) (e : Fin 2) (d : Fin 64) (s : Fin 1024) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix4 e 0 d s) = a.dq (g e) h d s := by
  rw [out0_C_10, View.read_writes_junk_eq_canon, runC_dq]
  exact dq_step (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) h0 ht e d s

/-- A last step adds its own two groups' parts to the key-gradient accumulator. -/
theorem outC_dk (hc0 : ¬cond0_0 i) (hc1 : cond0_1 i) (B : BlockReads i x0 x1 x2 x3 x4 x5 x6 x7 x8 x9 a h g) (K : Carried xs0 xs1 xs2 a h)
    (h0 : ∀ s, 0 ≤ a.dsc s) (ht : ∀ s, a.dsc s ≠ ⊤) (d : Fin 64) (s : Fin 1024) :
    sout0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix2 d s) = (xs9 (ix2 d s) + ∑ e, a.dkPart (g e) h d s : EReal) := by
  rw [sout0_C_9, View.read_writes_junk_eq_canon, runC_dk, dk_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) h0 ht , harg24.read_unread]

/-- A last step stores the key gradient of its key head. -/
theorem outC_dkOut (hc0 : ¬cond0_0 i) (hc1 : cond0_1 i) (B : BlockReads i x0 x1 x2 x3 x4 x5 x6 x7 x8 x9 a h g) (K : Carried xs0 xs1 xs2 a h)
    (h0 : ∀ s, 0 ≤ a.dsc s) (ht : ∀ s, a.dsc s ≠ ⊤) (d : Fin 64) (s : Fin 1024) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix3 0 d s) = ((xs9 (ix2 d s) + ∑ e, a.dkPart (g e) h d s) * eighth : EReal) := by
  rw [out0_C_11, View.read_writes_junk_eq_canon, runC_dkOut, pay2_at, dk_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) h0 ht , harg24.read_unread]

/-- A last step adds its own two groups' parts to the value-gradient accumulator. -/
theorem outC_dv (hc0 : ¬cond0_0 i) (hc1 : cond0_1 i) (B : BlockReads i x0 x1 x2 x3 x4 x5 x6 x7 x8 x9 a h g) (K : Carried xs0 xs1 xs2 a h)
     (d : Fin 64) (s : Fin 1024) :
    sout0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix2 d s) = (xs10 (ix2 d s) + ∑ e, a.dvPart (g e) h d s : EReal) := by
  rw [sout0_C_10, View.read_writes_junk_eq_canon, runC_dv, dv_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) , harg25.read_unread]

/-- A last step stores the value gradient of its key head. -/
theorem outC_dvOut (hc0 : ¬cond0_0 i) (hc1 : cond0_1 i) (B : BlockReads i x0 x1 x2 x3 x4 x5 x6 x7 x8 x9 a h g) (K : Carried xs0 xs1 xs2 a h)
     (d : Fin 64) (s : Fin 1024) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 xs0 xs1 xs2 xs9 xs10 (ix3 0 d s) = (xs10 (ix2 d s) + ∑ e, a.dvPart (g e) h d s : EReal) := by
  rw [out0_C_12, View.read_writes_junk_eq_canon, runC_dvOut, pay3_at, dv_step_over (reads_over i arg2 harg2 arg3 harg3 arg4 harg4 arg5 harg5 arg8 harg8 arg9 harg9 arg10 harg10 arg11 harg11 arg15 harg15 arg16 harg16 arg17 harg17 arg18 arg19 arg20 arg21 arg22 arg23 x0 x1 x2 x3 x4 x5 x6 x7 x8 x9 xs0 xs1 xs2 B K) , harg25.read_unread]

/-- A first step leaves the keys and values of its key head in the carried buffers. -/
theorem outA_carried (hc0 : cond0_0 i) (hc1 : ¬cond0_1 i) (B : BlockReads i x0 x1 x2 x3 x4 x5 x6 x7 x8 x9 a h g) :
    Carried (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9)
      (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9) a h := by
  have e0 : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 = View.canon (st15 arg6 harg6 x4) := by
    rw [sout0_A_0, View.read_writes_junk_eq_canon, runA_kn]
  have e1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 = View.canon (st16 arg6 harg6 x4) := by
    rw [sout0_A_1, View.read_writes_junk_eq_canon, runA_kt]
  have e2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 = View.canon (st17 arg7 harg7 x5) := by
    rw [sout0_A_2, View.read_writes_junk_eq_canon, runA_vn]
  rw [e0, e1, e2]
  exact carried_fresh i arg6 harg6 arg7 harg7 x0 x1 x2 x3 x4 x5 x6 x7 x8 x9 B

end Cert.Own

end
-- ==== Proof.Blocks.lean ====
/- What the blocks of a grid point hold: point `t` works on key head `t / 4` and on two of its eight query heads. -/
module

public import proofs.«01_k».proof.Proof.Gen.KernelIdeal.Value
public import proofs.«01_k».proof.Proof.Spec
public import Idealize.ShloMosaic.Lib.Pointwise
public import Idealize.ShloMosaic.Lib.Claim
public import Idealize.ShloMosaic.Lib.Pipeline.ValueKit
public import Idealize.ShloMosaic.Lib.ValueIdx
public import Idealize.ShloMosaic.Lib.ValueLayout

@[expose] public section

set_option maxRecDepth 16384

noncomputable section

namespace Cert.Own

open Cert.KernelIdeal Cert.KernelIdeal.Gen
open Idealize.ShloMosaic Idealize.ShloMosaic.TcCoe Idealize.SL.Sem

variable (m : (ℓ : Loc nD τ sig) → Buf (Elt Ideal) ℓ)

/-- The kernel's argument arrays as the formulas read them. -/
abbrev kargs (c : Dev nD) : Args where
  q i h d := m ((c : Thread nD τ).loc main_arg0) (ix4 0 i h d)
  qs h := m ((c : Thread nD τ).loc main_arg1) (ix1 h)
  k j h d := m ((c : Thread nD τ).loc main_arg2) (ix4 0 j h d)
  ks h := m ((c : Thread nD τ).loc main_arg3) (ix1 h)
  v j h d := m ((c : Thread nD τ).loc main_arg4) (ix4 0 j h d)
  vs h := m ((c : Thread nD τ).loc main_arg5) (ix1 h)
  o i h d := m ((c : Thread nD τ).loc main_arg6) (ix4 0 i h d)
  lse h i := m ((c : Thread nD τ).loc main_arg7) (ix3 0 h i)
  dO i h d := m ((c : Thread nD τ).loc main_arg8) (ix4 0 i h d)
  dsc i := m ((c : Thread nD τ).loc main_arg9) (ix2 0 i)

/-- The key head of point `t`. -/
abbrev kv (t : Fin cfg0.N) : Fin 4 := ⟨t.val / 4, by have := lt_of_lt_of_eq t.isLt (show cfg0.N = 16 from N_0); omega⟩
/-- The group of the query head `e` of point `t`'s two. -/
abbrev grp (t : Fin cfg0.N) (e : Fin 2) : Fin 8 := ⟨2 * (t.val % 4) + e.val, by omega⟩

/-- Where each two-head block of point `t` lies. -/
theorem at4 : ∀ t : Fin cfg0.N, win0_3.index t = ![t.val % 4, t.val / 4, 0, 0] ∧ win0_6.index t = ![t.val % 4, t.val / 4, 0, 0]
    ∧ win0_7.index t = ![t.val % 4, t.val / 4, 0, 0] ∧ win0_8.index t = ![t.val % 4, t.val / 4, 0, 0] :=
  (by decide +kernel : ∀ t : Fin grid0.N, _)

/-- Where each key and value block of point `t` lies, and that the scales are staged whole. -/
theorem at3 : ∀ t : Fin cfg0.N, win0_4.index t = ![t.val / 4, 0, 0] ∧ win0_5.index t = ![t.val / 4, 0, 0]
    ∧ win0_0.index t = ![0] ∧ win0_1.index t = ![0] ∧ win0_2.index t = ![0] ∧ win0_9.index t = ![0, 0] :=
  (by decide +kernel : ∀ t : Fin grid0.N, _)

/-! What each input block holds, read at an index. -/

theorem blk0 (c : Dev nD) (t : Fin cfg0.N) (h : Fin 32) : iblk m c 0 t (ix1 h) = (kargs m c).qs h := by
  blk_ext! [iblk, V, at3 t]

theorem blk9 (c : Dev nD) (t : Fin cfg0.N) (s : Fin 1024) : iblk m c 9 t (ix2 0 s) = (kargs m c).dsc s := by
  blk_ext! [iblk, V, at3 t]

theorem blk3 (c : Dev nD) (t : Fin cfg0.N) (e : Fin 2) (d : Fin 64) (s : Fin 1024) :
    iblk m c 3 t (ix4 e 0 d s) = (kargs m c).q s (head (grp t e) (kv t)) d := by
  blk_ext! [iblk, V, at4 t]

theorem blk1 (c : Dev nD) (t : Fin cfg0.N) (h : Fin 4) : iblk m c 1 t (ix1 h) = (kargs m c).ks h := by
  blk_ext! [iblk, V, at3 t]

theorem blk2 (c : Dev nD) (t : Fin cfg0.N) (h : Fin 4) : iblk m c 2 t (ix1 h) = (kargs m c).vs h := by
  blk_ext! [iblk, V, at3 t]

theorem blk4 (c : Dev nD) (t : Fin cfg0.N) (d : Fin 64) (s : Fin 1024) :
    iblk m c 4 t (ix3 0 d s) = (kargs m c).k s (kv t) d := by
  blk_ext! [iblk, V, at3 t]

theorem blk5 (c : Dev nD) (t : Fin cfg0.N) (d : Fin 64) (s : Fin 1024) :
    iblk m c 5 t (ix3 0 d s) = (kargs m c).v s (kv t) d := by
  blk_ext! [iblk, V, at3 t]

theorem blk6 (c : Dev nD) (t : Fin cfg0.N) (e : Fin 2) (d : Fin 64) (s : Fin 1024) :
    iblk m c 6 t (ix4 e 0 d s) = (kargs m c).o s (head (grp t e) (kv t)) d := by
  blk_ext! [iblk, V, at4 t]

theorem blk7 (c : Dev nD) (t : Fin cfg0.N) (e : Fin 2) (s : Fin 1024) :
    iblk m c 7 t (ix4 e 0 0 s) = (kargs m c).lse (head (grp t e) (kv t)) s := by
  blk_ext! [iblk, V, at4 t]

theorem blk8 (c : Dev nD) (t : Fin cfg0.N) (e : Fin 2) (d : Fin 64) (s : Fin 1024) :
    iblk m c 8 t (ix4 e 0 d s) = (kargs m c).dO s (head (grp t e) (kv t)) d := by
  blk_ext! [iblk, V, at4 t]

/-- Where point `t` finds its key head's scales. -/
theorem off1 : ∀ t : Fin cfg0.N, k0_off1 (grid0.coords t) = ![t.val / 4] :=
  (by decide +kernel : ∀ t : Fin grid0.N, _)

/-- Where point `t` finds the scales of its two query heads. -/
theorem off2 : ∀ t : Fin cfg0.N, k0_off2 (grid0.coords t) 0#32 = ![2 * (t.val % 4) * 4 + t.val / 4]
    ∧ k0_off2 (grid0.coords t) 1#32 = ![(2 * (t.val % 4) + 1) * 4 + t.val / 4] :=
  (by decide +kernel : ∀ t : Fin grid0.N, _)

end Cert.Own

end
-- ==== Proof.Points.lean ====
/- What the run holds after each grid point, by induction over the points, and the three result arrays read from it. -/
module

public import proofs.«01_k».proof.Proof.Outs
public import proofs.«01_k».proof.Proof.Blocks

@[expose] public section

set_option maxRecDepth 16384

noncomputable section

namespace Cert.Own

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- The blocks of point `t` hold the argument arrays, for its key head and its two groups. -/
theorem blockReads (t : Fin cfg0.N) : BlockReads (grid0.coords t) (iblk m c 0 t) (iblk m c 1 t) (iblk m c 2 t) (iblk m c 3 t) (iblk m c 4 t) (iblk m c 5 t) (iblk m c 6 t) (iblk m c 7 t) (iblk m c 8 t) (iblk m c 9 t) (kargs m c) (kv t) (grp t) where
  off1 := off1 t
  off20 := (off2 t).1
  off21 := (off2 t).2
  b0 := blk0 m c t
  b1 := blk1 m c t
  b2 := blk2 m c t
  b3 := blk3 m c t
  b4 := blk4 m c t
  b5 := blk5 m c t
  b6 := blk6 m c t
  b7 := blk7 m c t
  b8 := blk8 m c t
  b9 := blk9 m c t

/-- The sum of a family over the groups below `n`. -/
def below (n : ℕ) (f : Fin 8 → EReal) : EReal := ∑ g : Fin 8, if g.val < n then f g else 0

/-- Point `t`'s two groups extend the sum over the groups before them. -/
theorem below_add (t : Fin cfg0.N) (f : Fin 8 → EReal) :
    below (2 * (t.val % 4)) f + ∑ e, f (grp t e) = below (2 * (t.val % 4) + 2) f := by
  have e1 : ∑ e, f (grp t e) = f ⟨2 * (t.val % 4), by omega⟩ + f ⟨2 * (t.val % 4) + 1, by omega⟩ := Fin.sum_univ_two _
  rw [e1]
  have key : ∀ (r : ℕ) (h1 : 2 * r < 8) (h2 : 2 * r + 1 < 8),
      below (2 * r) f + (f ⟨2 * r, h1⟩ + f ⟨2 * r + 1, h2⟩) = below (2 * r + 2) f := by
    intro r h1 h2
    have : r < 4 := by omega
    unfold below
    interval_cases r <;> simp [Fin.sum_univ_eight, add_assoc]
  exact key _ _ _

/-- All the groups. -/
theorem below_all (f : Fin 8 → EReal) : below 8 f = ∑ g, f g :=
  Finset.sum_congr rfl fun g _ => if_pos g.isLt

theorem below_zero (f : Fin 8 → EReal) : below 0 f = 0 :=
  Finset.sum_eq_zero fun g _ => if_neg (Nat.not_lt_zero _)

/-- What the run holds in scratch for key head `h` once `n` of its groups are done. -/
structure Held (acc : Vec Ideal S2x1x64x1024 .bf16 × Vec Ideal S1x64x1024 .bf16 × Vec Ideal S1x64x1024 .bf16 × Vec Ideal S1024x64 .fp8e4m3 × Vec Ideal S64x1024 .bf16 × Vec Ideal S1024x64 .bf16 × Vec Ideal S64x1024 .f32 × Vec Ideal S64x1024 .f32)
    (h : Fin 4) (n : ℕ) : Prop where
  carried : Carried acc.2.2.2.1 acc.2.2.2.2.1 acc.2.2.2.2.2.1 (kargs m c) h
  dk : ∀ d s, acc.2.2.2.2.2.2.1 (ix2 d s) = below n fun g => (kargs m c).dkPart g h d s
  dv : ∀ d s, acc.2.2.2.2.2.2.2 (ix2 d s) = below n fun g => (kargs m c).dvPart g h d s

/-- What the run holds after point `t`. -/
structure After (t : Fin cfg0.N) (acc : Vec Ideal S2x1x64x1024 .bf16 × Vec Ideal S1x64x1024 .bf16 × Vec Ideal S1x64x1024 .bf16 × Vec Ideal S1024x64 .fp8e4m3 × Vec Ideal S64x1024 .bf16 × Vec Ideal S1024x64 .bf16 × Vec Ideal S64x1024 .f32 × Vec Ideal S64x1024 .f32) : Prop where
  held : Held m c acc (kv t) (2 * (t.val % 4) + 2)
  dq : ∀ e d s, acc.1 (ix4 e 0 d s) = (kargs m c).dq (grp t e) (kv t) d s
  dk : t.val % 4 = 3 → ∀ d s, acc.2.1 (ix3 0 d s) = (kargs m c).dk (kv t) d s
  dv : t.val % 4 = 3 → ∀ d s, acc.2.2.1 (ix3 0 d s) = (kargs m c).dv (kv t) d s

/-- What a point leaves, from its parts. -/
theorem after_mk (t : Fin cfg0.N) (o10 : Vec Ideal S2x1x64x1024 .bf16) (o11 o12 : Vec Ideal S1x64x1024 .bf16)
    (s0 : Vec Ideal S1024x64 .fp8e4m3) (s1 : Vec Ideal S64x1024 .bf16) (s2 : Vec Ideal S1024x64 .bf16)
    (s9 s10 : Vec Ideal S64x1024 .f32) (hk : Carried s0 s1 s2 (kargs m c) (kv t))
    (h9 : ∀ d s, s9 (ix2 d s) = below (2 * (t.val % 4) + 2) fun g => (kargs m c).dkPart g (kv t) d s)
    (h10 : ∀ d s, s10 (ix2 d s) = below (2 * (t.val % 4) + 2) fun g => (kargs m c).dvPart g (kv t) d s)
    (hq : ∀ e d s, o10 (ix4 e 0 d s) = (kargs m c).dq (grp t e) (kv t) d s)
    (h11 : t.val % 4 = 3 → ∀ d s, o11 (ix3 0 d s) = (kargs m c).dk (kv t) d s)
    (h12 : t.val % 4 = 3 → ∀ d s, o12 (ix3 0 d s) = (kargs m c).dv (kv t) d s) :
    After m c t (o10, o11, o12, s0, s1, s2, s9, s10) := ⟨⟨hk, h9, h10⟩, hq, h11, h12⟩

variable (hz : ∀ s, 0 ≤ (kargs m c).dsc s) (ht : ∀ s, (kargs m c).dsc s ≠ ⊤)
include hz ht

/-- A key head's first point. -/
theorem after_A (t : Fin cfg0.N) (acc : Vec Ideal S2x1x64x1024 .bf16 × Vec Ideal S1x64x1024 .bf16 × Vec Ideal S1x64x1024 .bf16 × Vec Ideal S1024x64 .fp8e4m3 × Vec Ideal S64x1024 .bf16 × Vec Ideal S1024x64 .bf16 × Vec Ideal S64x1024 .f32 × Vec Ideal S64x1024 .f32)
    (h0 : t.val % 4 = 0) (h1 : ¬t.val % 4 = 3) : After m c t (stAt0 m c t.val t.isLt acc) := by
  rw [stAt0_A m c t acc h0 h1]
  refine after_mk m c t _ _ _ _ _ _ _ _ ?_ (fun d s => ?_) (fun d s => ?_) (fun e d s => ?_) (fun h => absurd h h1) (fun h => absurd h h1)
  · exact outA_carried c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) (blockReads m c t)
  · refine (outA_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) (blockReads m c t) hz ht d s).trans ?_
    rw [← below_add, h0, below_zero, zero_add]
  · refine (outA_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) (blockReads m c t) d s).trans ?_
    rw [← below_add, h0, below_zero, zero_add]
  · exact outA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) (blockReads m c t) hz ht e d s

/-- A key head's middle points. -/
theorem after_B (t : Fin cfg0.N) (acc : Vec Ideal S2x1x64x1024 .bf16 × Vec Ideal S1x64x1024 .bf16 × Vec Ideal S1x64x1024 .bf16 × Vec Ideal S1024x64 .fp8e4m3 × Vec Ideal S64x1024 .bf16 × Vec Ideal S1024x64 .bf16 × Vec Ideal S64x1024 .f32 × Vec Ideal S64x1024 .f32)
    (h0 : ¬t.val % 4 = 0) (h1 : ¬t.val % 4 = 3) (H : Held m c acc (kv t) (2 * (t.val % 4))) :
    After m c t (stAt0 m c t.val t.isLt acc) := by
  rw [stAt0_B m c t acc h0 h1]
  refine after_mk m c t _ _ _ _ _ _ _ _ ?_ (fun d s => ?_) (fun d s => ?_) (fun e d s => ?_) (fun h => absurd h h1) (fun h => absurd h h1)
  · exact H.carried
  · refine (outB_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (blockReads m c t) H.carried hz ht d s).trans ?_
    rw [H.dk]
    exact below_add t _
  · refine (outB_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (blockReads m c t) H.carried d s).trans ?_
    rw [H.dv]
    exact below_add t _
  · exact outB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) (fun h => h1 ((hcond0_1 t).mp h)) (blockReads m c t) H.carried hz ht e d s

/-- A key head's last point. -/
theorem after_C (t : Fin cfg0.N) (acc : Vec Ideal S2x1x64x1024 .bf16 × Vec Ideal S1x64x1024 .bf16 × Vec Ideal S1x64x1024 .bf16 × Vec Ideal S1024x64 .fp8e4m3 × Vec Ideal S64x1024 .bf16 × Vec Ideal S1024x64 .bf16 × Vec Ideal S64x1024 .f32 × Vec Ideal S64x1024 .f32)
    (h0 : ¬t.val % 4 = 0) (h1 : t.val % 4 = 3) (H : Held m c acc (kv t) (2 * (t.val % 4))) :
    After m c t (stAt0 m c t.val t.isLt acc) := by
  rw [stAt0_C m c t acc h0 h1]
  refine after_mk m c t _ _ _ _ _ _ _ _ ?_ (fun d s => ?_) (fun d s => ?_) (fun e d s => ?_) (fun _ d s => ?_) (fun _ d s => ?_)
  · exact H.carried
  · refine (outC_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) ((hcond0_1 t).mpr h1) (blockReads m c t) H.carried hz ht d s).trans ?_
    rw [H.dk]
    exact below_add t _
  · refine (outC_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) ((hcond0_1 t).mpr h1) (blockReads m c t) H.carried d s).trans ?_
    rw [H.dv]
    exact below_add t _
  · exact outC_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) ((hcond0_1 t).mpr h1) (blockReads m c t) H.carried hz ht e d s
  · refine (outC_dkOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) ((hcond0_1 t).mpr h1) (blockReads m c t) H.carried hz ht d s).trans ?_
    rw [H.dk]
    refine congrArg (· * eighth) ((below_add t _).trans ?_)
    rw [h1]
    exact below_all _
  · refine (outC_dvOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) acc.2.2.2.1 acc.2.2.2.2.1 acc.2.2.2.2.2.1 acc.2.2.2.2.2.2.1 acc.2.2.2.2.2.2.2 (fun h => h0 ((hcond0_0 t).mp h)) ((hcond0_1 t).mpr h1) (blockReads m c t) H.carried d s).trans ?_
    rw [H.dv]
    refine (below_add t _).trans ?_
    rw [h1]
    exact below_all _

/-- After every point the run holds what `After` says. -/
theorem after_all : ∀ (n : ℕ) (hn : n < cfg0.N), After m c ⟨n, hn⟩ (outsAt0 m c n hn)
  | 0, hn => by
    rw [outsAt0_zero]
    exact after_A m c hz ht ⟨0, hn⟩ junk0 rfl (by show ¬0 % 4 = 3; omega)
  | n + 1, hn => by
    have ih := (after_all n (Nat.lt_of_succ_lt hn)).held
    rw [outsAt0_succ]
    by_cases h0 : (n + 1) % 4 = 0
    · exact after_A m c hz ht ⟨n + 1, hn⟩ _ h0 (by show ¬(n + 1) % 4 = 3; omega)
    · have hk : kv ⟨n, Nat.lt_of_succ_lt hn⟩ = kv ⟨n + 1, hn⟩ := Fin.ext (by show n / 4 = (n + 1) / 4; omega)
      have hg : 2 * (n % 4) + 2 = 2 * ((n + 1) % 4) := by omega
      have H : Held m c (outsAt0 m c n (Nat.lt_of_succ_lt hn)) (kv ⟨n + 1, hn⟩) (2 * ((n + 1) % 4)) := by
        rw [← hk, ← hg]; exact ih
      by_cases h1 : (n + 1) % 4 = 3
      · exact after_C m c hz ht ⟨n + 1, hn⟩ _ h0 h1 H
      · exact after_B m c hz ht ⟨n + 1, hn⟩ _ h0 h1 H

end Cert.Own

end
-- ==== Proof.Results.lean ====
/- The kernel's three result arrays are the three gradients of its argument arrays. -/
module

public import proofs.«01_k».proof.Proof.Points

@[expose] public section

set_option maxRecDepth 16384

noncomputable section

namespace Cert.Own

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)
variable (hz : ∀ s, 0 ≤ (kargs m c).dsc s) (ht : ∀ s, (kargs m c).dsc s ≠ ⊤)
include hz ht

/-- The first result is the gradient of the queries. -/
theorem G10_at (g : Fin 8) (h : Fin 4) (d : Fin 64) (s : Fin 1024) :
    G10 m c (ix4 g h d s) = (kargs m c).dq g h d s := by
  have hp : pt10Of (ix4 g h d s) = g.val / 2 + 4 * h.val := by
    show 1 * (g.val / 2 - 0) + 4 * (h.val / 1 - 0) + 16 * (d.val / 64 - 0) + 16 * (s.val / 1024 - 0) = _
    omega
  have hlt : pt10Of (ix4 g h d s) < cfg0.N := by
    rw [hp]; exact lt_of_lt_of_eq (by omega) (show cfg0.N = 16 from N_0).symm
  unfold G10
  rw [dif_pos hlt, ← outsAt0_sweep m c _ hlt]
  have hl : loc10Of (ix4 g h d s) = ix4 (⟨g.val % 2, by omega⟩ : Fin 2) 0 d s :=
    idx4_ext rfl (by show h.val % 1 = 0; omega) (by show d.val % 64 = d.val; omega) (by show s.val % 1024 = s.val; omega)
  rw [hl, (after_all m c hz ht _ hlt).dq]
  have e1 : grp ⟨pt10Of (ix4 g h d s), hlt⟩ ⟨g.val % 2, by omega⟩ = g :=
    Fin.ext (by show 2 * (pt10Of (ix4 g h d s) % 4) + g.val % 2 = g.val; rw [hp]; omega)
  have e2 : kv ⟨pt10Of (ix4 g h d s), hlt⟩ = h := Fin.ext (by show pt10Of (ix4 g h d s) / 4 = h.val; rw [hp]; omega)
  rw [e1, e2]

/-- The second result is the gradient of the keys. -/
theorem G11_at (h : Fin 4) (d : Fin 64) (s : Fin 1024) : G11 m c (ix3 h d s) = (kargs m c).dk h d s := by
  have hp : pt11Of (ix3 h d s) = 4 * h.val + 3 := by
    show 4 * (1 * (h.val / 1 - 0) + 1 * (d.val / 64 - 0) + 1 * (s.val / 1024 - 0)) + 3 = _
    omega
  have hlt : pt11Of (ix3 h d s) < cfg0.N := by
    rw [hp]; exact lt_of_lt_of_eq (by omega) (show cfg0.N = 16 from N_0).symm
  unfold G11
  rw [dif_pos hlt, ← outsAt0_sweep m c _ hlt]
  have hl : loc11Of (ix3 h d s) = ix3 0 d s :=
    idx3_ext (by show h.val % 1 = 0; omega) (by show d.val % 64 = d.val; omega) (by show s.val % 1024 = s.val; omega)
  rw [hl, (after_all m c hz ht _ hlt).dk (by show pt11Of (ix3 h d s) % 4 = 3; rw [hp]; omega)]
  have e2 : kv ⟨pt11Of (ix3 h d s), hlt⟩ = h := Fin.ext (by show pt11Of (ix3 h d s) / 4 = h.val; rw [hp]; omega)
  rw [e2]

/-- The third result is the gradient of the values. -/
theorem G12_at (h : Fin 4) (d : Fin 64) (s : Fin 1024) : G12 m c (ix3 h d s) = (kargs m c).dv h d s := by
  have hp : pt12Of (ix3 h d s) = 4 * h.val + 3 := by
    show 4 * (1 * (h.val / 1 - 0) + 1 * (d.val / 64 - 0) + 1 * (s.val / 1024 - 0)) + 3 = _
    omega
  have hlt : pt12Of (ix3 h d s) < cfg0.N := by
    rw [hp]; exact lt_of_lt_of_eq (by omega) (show cfg0.N = 16 from N_0).symm
  unfold G12
  rw [dif_pos hlt, ← outsAt0_sweep m c _ hlt]
  have hl : loc12Of (ix3 h d s) = ix3 0 d s :=
    idx3_ext (by show h.val % 1 = 0; omega) (by show d.val % 64 = d.val; omega) (by show s.val % 1024 = s.val; omega)
  rw [hl, (after_all m c hz ht _ hlt).dv (by show pt12Of (ix3 h d s) % 4 = 3; rw [hp]; omega)]
  have e2 : kv ⟨pt12Of (ix3 h d s), hlt⟩ = h := Fin.ext (by show pt12Of (ix3 h d s) / 4 = h.val; rw [hp]; omega)
  rw [e2]

end Cert.Own

end
-- ==== Proof.RefRead.lean ====
/- The reference's three results read as the formulas of `Spec`: each layout step is followed at one index. -/
module

public import proofs.«01_k».proof.Proof.Gen.ReferenceIdeal.Read
public import proofs.«01_k».proof.Proof.Spec
public import Idealize.ShloMosaic.Lib.TwoAxisContraction

@[expose] public section

noncomputable section

namespace Cert.Own.Ref

open Cert.ReferenceIdeal Cert.ReferenceIdeal.Gen Cert.ReferenceIdeal.Read Cert.Own
open Idealize.ShloMosaic Idealize.ShloMosaic.ValueIdx Idealize.SL.Sem

variable (x1 : (⟨S32, .f32⟩ : BufTy).Contents (Elt Ideal)) (x3 x5 : (⟨S4, .f32⟩ : BufTy).Contents (Elt Ideal))
  (x6 : (⟨S1x1024x32x64, .bf16⟩ : BufTy).Contents (Elt Ideal)) (x7 : (⟨S1x32x1024, .f32⟩ : BufTy).Contents (Elt Ideal))
  (x9 : (⟨S1x1024, .f32⟩ : BufTy).Contents (Elt Ideal)) (r0 : (⟨S1x1024x32x64, .bf16⟩ : BufTy).Contents (Elt Ideal))
  (r1 r2 : (⟨S1x1024x4x64, .bf16⟩ : BufTy).Contents (Elt Ideal)) (r3 : (⟨S1x1024x32x64, .bf16⟩ : BufTy).Contents (Elt Ideal))

/-- The reference's operands as argument arrays: `r0 … r3` are the decoded queries, keys, values and output gradient. -/
abbrev args : Args where
  q i h d := r0 (ix4 0 i h d)
  qs h := x1 (ix1 h)
  k j h d := r1 (ix4 0 j h d)
  ks h := x3 (ix1 h)
  v j h d := r2 (ix4 0 j h d)
  vs h := x5 (ix1 h)
  o i h d := x6 (ix4 0 i h d)
  lse h i := x7 (ix3 0 h i)
  dO i h d := r3 (ix4 0 i h d)
  dsc i := x9 (ix2 0 i)

/-- Splitting the head axis `[1, 1024, 32, 64] → [1, 1024, 8, 4, 64]`: element `(i, g, h, d)` is head `4·g + h`. -/
theorem v13_eq (i : Fin 1024) (g : Fin 8) (h : Fin 4) (d : Fin 64) :
    val_main_v13 (F := Ideal) r0 (ix5 0 i g h d) = r0 (ix4 0 i (head g h) d) := by
  rw [val_main_v13_apply]
  refine congrArg r0 (idx4_ext rfl ?_ ?_ ?_)
  · show ((((0 * 1024 + i.val) * 8 + g.val) * 4 + h.val) * 64 + d.val) / 2048 % 1024 = i.val; omega
  · show ((((0 * 1024 + i.val) * 8 + g.val) * 4 + h.val) * 64 + d.val) / 64 % 32 = g.val * 4 + h.val; omega
  · show ((((0 * 1024 + i.val) * 8 + g.val) * 4 + h.val) * 64 + d.val) % 64 = d.val; omega

/-- The same split of the output gradient. -/
theorem v14_eq (i : Fin 1024) (g : Fin 8) (h : Fin 4) (d : Fin 64) :
    val_main_v14 (F := Ideal) r3 (ix5 0 i g h d) = r3 (ix4 0 i (head g h) d) := v13_eq r3 i g h d

/-- The scaled queries, split by head. -/
theorem v12_eq (i : Fin 1024) (g : Fin 8) (h : Fin 4) (d : Fin 64) :
    val_main_v12 (F := Ideal) x1 r0 (ix5 0 i g h d) = r0 (ix4 0 i (head g h) d) * x1 (ix1 (head g h)) := by
  have e : val_main_v12 (F := Ideal) x1 r0 (ix5 0 i g h d) = val_main_v11 (F := Ideal) x1 r0 (ix4 0 i (head g h) d) :=
    v13_eq (val_main_v11 (F := Ideal) x1 r0) i g h d
  rw [e, val_main_v11_apply, val_main_v10_apply, val_main_v9_apply, val_main_v8_apply]
  exact congrArg (fun z => r0 (ix4 0 i (head g h) d) * x1 z) (idx1_ext rfl)

/-- The output gradient times its row scale, split by head. -/
theorem v18_eq (i : Fin 1024) (g : Fin 8) (h : Fin 4) (d : Fin 64) :
    val_main_v18 (F := Ideal) x9 r3 (ix5 0 i g h d) = r3 (ix4 0 i (head g h) d) * x9 (ix2 0 i) := by
  rw [val_main_v18_apply, v14_eq, val_main_v17_apply, val_main_v16_apply, val_main_v15_apply]
  exact congrArg (fun z => r3 (ix4 0 i (head g h) d) * x9 z) (idx2_ext rfl rfl)

/-- The products of keys and queries are the scores. -/
theorem v22_eq (g : Fin 8) (h : Fin 4) (i j : Fin 1024) :
    val_main_v22 (F := Ideal) r0 r1 (ix5 0 g h i j) = (args x1 x3 x5 x6 x7 x9 r0 r1 r2 r3).score g h i j := by
  rw [val_main_v22_apply, val_main_v21_apply]
  refine Finset.sum_congr rfl fun d _ => ?_
  rw [show ridx_main_v21 (idx_main_v22 (ix5 0 g h i j)) d = ix5 0 i g h d from idx5_ext rfl rfl rfl rfl rfl, v13_eq]
  exact congrArg (fun z => r1 z * r0 (ix4 0 i (head g h) d)) (idx4_ext rfl rfl rfl rfl)

/-- The scaled scores, before masking. -/
theorem v30_eq (g : Fin 8) (h : Fin 4) (i j : Fin 1024) :
    val_main_v30 (F := Ideal) x1 x3 r0 r1 (ix5 0 g h i j)
      = (args x1 x3 x5 x6 x7 x9 r0 r1 r2 r3).score g h i j * x1 (ix1 (head g h)) * x3 (ix1 h) * eighth := by
  rw [val_main_v30_apply, val_main_v28_apply, val_main_v25_apply, v22_eq x1 x3 x5 x6 x7 x9 r0 r1 r2 r3,
    val_main_v24_apply, val_main_v23_apply, val_main_v19_apply, val_main_v27_apply, val_main_v26_apply,
    val_main_v29_apply, val_main_cst_apply]
  rw [show idx_main_v19 (idx_main_v23 (idx_main_v24 (ix5 0 g h i j))) = ix1 (head g h) from idx1_ext rfl,
    show idx_main_v26 (idx_main_v27 (ix5 0 g h i j)) = ix1 h from idx1_ext rfl]
  simp only [Ideal.ofBits_def, Ideal.mulf_def, ofBits_eighth]
  rfl

/-- The probabilities. -/
theorem v41_eq (g : Fin 8) (h : Fin 4) (i j : Fin 1024) :
    val_main_v41 (F := Ideal) x1 x3 x7 r0 r1 (ix5 0 g h i j) = (args x1 x3 x5 x6 x7 x9 r0 r1 r2 r3).prob g h i j := by
  rw [val_main_v41_apply, val_main_v40_apply, val_main_v37_apply, val_main_call0_v1_apply, val_main_v36_apply,
    val_main_v34_apply, val_main_v32_apply, val_main_v31_apply, val_main_v35_apply, val_main_v33_apply, val_main_v31_apply,
    v30_eq x1 x3 x5 x6 x7 x9 r0 r1 r2 r3, val_main_call0_v2_apply, val_main_call0_v0_apply, val_main_cst_0_apply,
    val_main_v39_apply, val_main_v38_apply, val_main_v20_apply]
  have hm := sle_word i j
  rw [show IntOp.cmpi .sle (BitVec.ofNat 32 (idx_main_v32 (idx_main_v34 (idx_main_call0_v1 (ix5 0 g h i j))) 0).val)
      (BitVec.ofNat 32 (idx_main_v33 (idx_main_v35 (idx_main_call0_v1 (ix5 0 g h i j))) 0).val)
      = if j.val ≤ i.val then 1#1 else 0#1 from hm]
  have hl : idx_main_v20 (idx_main_v38 (idx_main_v39 (ix5 0 g h i j))) = ix3 0 (head g h) i := by
    refine idx3_ext rfl ?_ ?_
    · show (((0 * 8 + g.val) * 4 + h.val) * 1024 + i.val) / 1024 % 32 = g.val * 4 + h.val; omega
    · show (((0 * 8 + g.val) * 4 + h.val) * 1024 + i.val) % 1024 = i.val; omega
  rw [hl]
  unfold Args.prob
  simp only [Ideal.hostUnary_exp_def, Ideal.subf_def, Ideal.ofBits_def]
  by_cases hle : j.val ≤ i.val
  · rw [if_pos hle, if_pos hle]; rfl
  · rw [if_neg hle, if_neg hle, ofBits_neg_inf]; exact exp_bot_sub _

/-- The gradients with respect to the probabilities. -/
theorem v49_eq (g : Fin 8) (h : Fin 4) (i j : Fin 1024) :
    val_main_v49 (F := Ideal) x5 x9 r2 r3 (ix5 0 g h i j) = (args x1 x3 x5 x6 x7 x9 r0 r1 r2 r3).dprob g h i j := by
  rw [val_main_v49_apply, val_main_v46_apply, val_main_v43_apply, val_main_v42_apply, val_main_v45_apply, val_main_v44_apply,
    val_main_v48_apply, val_main_v47_apply]
  rw [show idx_main_v44 (idx_main_v45 (ix5 0 g h i j)) = ix2 0 i from idx2_ext rfl rfl,
    show idx_main_v47 (idx_main_v48 (ix5 0 g h i j)) = ix1 h from idx1_ext rfl]
  refine congrArg (fun z => z * x9 (ix2 0 i) * x5 (ix1 h)) (Finset.sum_congr rfl fun d _ => ?_)
  rw [show ridx_main_v42 (idx_main_v43 (ix5 0 g h i j)) d = ix5 0 i g h d from idx5_ext rfl rfl rfl rfl rfl, v14_eq]
  exact congrArg (fun z => r2 z * r3 (ix4 0 i (head g h) d)) (idx4_ext rfl rfl rfl rfl)

/-- The row sums. -/
theorem v51_eq (g : Fin 8) (h : Fin 4) (i j : Fin 1024) :
    val_main_v51 (F := Ideal) x6 x9 r3 (ix5 0 g h i j) = (args x1 x3 x5 x6 x7 x9 r0 r1 r2 r3).delta g h i := by
  rw [val_main_v51_apply, val_main_v50_apply, val_main_v7_apply]
  have hl : idx_main_v7 (idx_main_v50 (idx_main_v51 (ix5 0 g h i j))) = ix3 0 (head g h) i := by
    refine idx3_ext rfl ?_ ?_
    · show (((0 * 8 + g.val) * 4 + h.val) * 1024 + i.val) / 1024 % 32 = g.val * 4 + h.val; omega
    · show (((0 * 8 + g.val) * 4 + h.val) * 1024 + i.val) % 1024 = i.val; omega
  rw [hl, val_main_v6_apply]
  refine Finset.sum_congr rfl fun d _ => ?_
  rw [val_main_v4_apply, val_main_v1_apply, val_main_v3_apply, val_main_v2_apply, val_main_v5_apply]
  rw [show lidx_main_v6 (ix3 0 (head g h) i) d = ix4 0 i (head g h) d from idx4_ext rfl rfl rfl rfl,
    show ridx_main_v6 (ix3 0 (head g h) i) d = ix4 0 i (head g h) d from idx4_ext rfl rfl rfl rfl]
  exact congrArg (fun z => r3 (ix4 0 i (head g h) d) * x9 z * x6 (ix4 0 i (head g h) d)) (idx2_ext rfl rfl)

/-- The gradients with respect to the scores. -/
theorem v53_eq (g : Fin 8) (h : Fin 4) (i j : Fin 1024) :
    val_main_v53 (F := Ideal) x1 x3 x5 x6 x7 x9 r0 r1 r2 r3 (ix5 0 g h i j)
      = (args x1 x3 x5 x6 x7 x9 r0 r1 r2 r3).dscore g h i j := by
  rw [val_main_v53_apply, val_main_v52_apply, v41_eq x1 x3 x5 x6 x7 x9 r0 r1 r2 r3, v49_eq x1 x3 x5 x6 x7 x9 r0 r1 r2 r3,
    v51_eq x1 x3 x5 x6 x7 x9 r0 r1 r2 r3]
  rfl

/-- The reference's first result is the gradient of the queries. -/
theorem v74_eq (g : Fin 8) (h : Fin 4) (d : Fin 64) (i : Fin 1024) :
    val_main_v74 (F := Ideal) x1 x3 x5 x6 x7 x9 r0 r1 r2 r3 (ix4 g h d i)
      = (args x1 x3 x5 x6 x7 x9 r0 r1 r2 r3).dq g h d i := by
  rw [val_main_v74_apply, val_main_v73_apply]
  have hl : idx_main_v73 (idx_main_v74 (ix4 g h d i)) = ix5 0 i g h d := by
    refine idx5_ext rfl ?_ ?_ ?_ ?_
    · show (((i.val * 8 + g.val) * 4 + h.val) * 64 + d.val) / 2048 % 1024 = i.val; omega
    · show (((i.val * 8 + g.val) * 4 + h.val) * 64 + d.val) / 256 % 8 = g.val; omega
    · show (((i.val * 8 + g.val) * 4 + h.val) * 64 + d.val) / 64 % 4 = h.val; omega
    · show (((i.val * 8 + g.val) * 4 + h.val) * 64 + d.val) % 64 = d.val; omega
  rw [hl, val_main_v62_apply, val_main_v61_apply, val_main_v56_apply, val_main_v55_apply, val_main_v60_apply, val_main_v59_apply,
    val_main_v58_apply, val_main_v57_apply, val_main_cst_1_apply]
  rw [show idx_main_v59 (idx_main_v60 (ix5 0 i g h d)) = ix1 h from idx1_ext rfl]
  simp only [Ideal.ofBits_def, Ideal.mulf_def, Ideal.truncf_def, ofBits_eighth]
  refine congrArg (fun z => z * (x3 (ix1 h) * eighth)) (Finset.sum_congr rfl fun j _ => ?_)
  rw [val_main_v54_apply, show ridx_main_v55 (idx_main_v56 (ix5 0 i g h d)) j = ix5 0 g h i j from idx5_ext rfl rfl rfl rfl rfl,
    v53_eq]
  exact congrArg (fun z => r1 z * (args x1 x3 x5 x6 x7 x9 r0 r1 r2 r3).dscore g h i j) (idx4_ext rfl rfl rfl rfl)

/-- The dimension numbers of the two products summed over group and query position. -/
abbrev D2 := dot_S1x1024x8x4x64_S1x8x4x1024x1024_S1x4x64x1024_21_13_4_4_03_02

/-- A product contracted over group and query position, read at an index. -/
theorem dot2_eq (A : (⟨S1x1024x8x4x64, .bf16⟩ : BufTy).Contents (Elt Ideal)) (B : (⟨S1x8x4x1024x1024, .bf16⟩ : BufTy).Contents (Elt Ideal))
    (h : Fin 4) (d : Fin 64) (j : Fin 1024) :
    (Host.dotGeneral (F := Ideal) (φ₁ := .bf16) (φ₂ := .bf16) D2 none A B : (⟨S1x4x64x1024, .f32⟩ : BufTy).Contents (Elt Ideal)) (ix4 0 h d j)
      = ∑ g : Fin 8, ∑ i : Fin 1024, A (ix5 0 i g h d) * B (ix5 0 g h i j) := by
  simp only [Host.dotGeneral]
  rw [Ideal.dotGeneral_apply (φ₁ := .bf16) (φ₂ := .bf16), sum_contr2 D2 8 1024 rfl rfl rfl]
  refine Finset.sum_congr rfl fun g _ => Finset.sum_congr rfl fun i _ => ?_
  have h0 := contrEquiv2_symm_val0 D2 8 1024 rfl rfl rfl (g, i)
  have h1 := contrEquiv2_symm_val1 D2 8 1024 rfl rfl rfl (g, i)
  set q := (contrEquiv2 D2 8 1024 rfl rfl rfl).symm (g, i) with hq
  have el : D2.lhsIdx (ix4 0 h d j) q = ix5 0 i g h d := by
    refine idx5_ext ?_ ?_ ?_ ?_ ?_
    · unfold DotDims.lhsIdx; rw [dif_pos (show (0 : Fin S1x1024x8x4x64.rank) ∈ D2.lhsBatch by decide)]; rfl
    · unfold DotDims.lhsIdx
      rw [dif_neg (show ¬(1 : Fin S1x1024x8x4x64.rank) ∈ D2.lhsBatch by decide)]
      exact h1
    · unfold DotDims.lhsIdx
      rw [dif_neg (show ¬(2 : Fin S1x1024x8x4x64.rank) ∈ D2.lhsBatch by decide)]
      exact h0
    · unfold DotDims.lhsIdx; rw [dif_pos (show (3 : Fin S1x1024x8x4x64.rank) ∈ D2.lhsBatch by decide)]; rfl
    · unfold DotDims.lhsIdx
      rw [dif_neg (show ¬(4 : Fin S1x1024x8x4x64.rank) ∈ D2.lhsBatch by decide)]
      rfl
  have er : D2.rhsIdx (ix4 0 h d j) q = ix5 0 g h i j := by
    refine idx5_ext ?_ ?_ ?_ ?_ ?_
    · unfold DotDims.rhsIdx; rw [dif_pos (show (0 : Fin S1x8x4x1024x1024.rank) ∈ D2.rhsBatch by decide)]; rfl
    · unfold DotDims.rhsIdx
      rw [dif_neg (show ¬(1 : Fin S1x8x4x1024x1024.rank) ∈ D2.rhsBatch by decide)]
      exact h0
    · unfold DotDims.rhsIdx; rw [dif_pos (show (2 : Fin S1x8x4x1024x1024.rank) ∈ D2.rhsBatch by decide)]; rfl
    · unfold DotDims.rhsIdx
      rw [dif_neg (show ¬(3 : Fin S1x8x4x1024x1024.rank) ∈ D2.rhsBatch by decide)]
      exact h1
    · unfold DotDims.rhsIdx
      rw [dif_neg (show ¬(4 : Fin S1x8x4x1024x1024.rank) ∈ D2.rhsBatch by decide)]
      rfl
  rw [el, er]

/-- Dropping the leading axis of size one and moving the position last. -/
theorem squeeze_idx (h : Fin 4) (d : Fin 64) (j : Fin 1024) :
    idx_main_v75 (idx_main_v76 (ix3 h d j)) = ix4 0 j h d := by
  refine idx4_ext rfl ?_ ?_ ?_
  · show ((j.val * 4 + h.val) * 64 + d.val) / 256 % 1024 = j.val; omega
  · show ((j.val * 4 + h.val) * 64 + d.val) / 64 % 4 = h.val; omega
  · show ((j.val * 4 + h.val) * 64 + d.val) % 64 = d.val; omega

/-- The reference's second result is the gradient of the keys. -/
theorem v76_eq (h : Fin 4) (d : Fin 64) (j : Fin 1024) :
    val_main_v76 (F := Ideal) x1 x3 x5 x6 x7 x9 r0 r1 r2 r3 (ix3 h d j)
      = (args x1 x3 x5 x6 x7 x9 r0 r1 r2 r3).dk h d j := by
  rw [val_main_v76_apply, val_main_v75_apply, squeeze_idx, val_main_v71_apply, val_main_v67_apply, val_main_v65_apply,
    val_main_v66_apply, val_main_cst_2_apply]
  rw [show idx_main_v65 (ix4 0 j h d) = ix4 0 h d j from idx4_ext rfl rfl rfl rfl]
  unfold val_main_v64
  rw [dot2_eq]
  simp only [Ideal.ofBits_def, Ideal.mulf_def, Ideal.truncf_def, ofBits_eighth]
  refine congrArg (fun z => z * eighth) (Finset.sum_congr rfl fun g _ => Finset.sum_congr rfl fun i _ => ?_)
  rw [v12_eq, val_main_v63_apply, v53_eq]
  rfl

/-- The reference's third result is the gradient of the values. -/
theorem v78_eq (h : Fin 4) (d : Fin 64) (j : Fin 1024) :
    val_main_v78 (F := Ideal) x1 x3 x7 x9 r0 r1 r3 (ix3 h d j)
      = (args x1 x3 x5 x6 x7 x9 r0 r1 r2 r3).dv h d j := by
  rw [val_main_v78_apply, val_main_v77_apply,
    show idx_main_v77 (idx_main_v78 (ix3 h d j)) = ix4 0 j h d from squeeze_idx h d j, val_main_v72_apply, val_main_v70_apply]
  rw [show idx_main_v70 (ix4 0 j h d) = ix4 0 h d j from idx4_ext rfl rfl rfl rfl]
  unfold val_main_v69
  rw [dot2_eq]
  simp only [Ideal.truncf_def]
  refine Finset.sum_congr rfl fun g _ => Finset.sum_congr rfl fun i _ => ?_
  rw [v18_eq, val_main_v68_apply, v41_eq x1 x3 x5 x6 x7 x9 r0 r1 r2 r3]
  rfl

end Cert.Own.Ref

end
-- ==== Proof.RefResults.lean ====
/- The reference's three result arrays are the three gradients of its argument arrays: the decoding region leaves each
   8-bit argument's values, and the host operations after it are read by `RefRead`. -/
module

public import proofs.«01_k».proof.Proof.Gen.ReferenceIdeal.Run
public import proofs.«01_k».proof.Proof.RefRead
public import Idealize.ShloMosaic.Lib.Pipeline.ValueKit
public import Idealize.ShloMosaic.Lib.Pointwise

@[expose] public section

set_option maxRecDepth 16384

noncomputable section

namespace Cert.Own.Ref

open Cert.ReferenceIdeal Cert.ReferenceIdeal.Gen Cert.ReferenceIdeal.Value Cert.Own
open Idealize.ShloMosaic Idealize.ShloMosaic.TcCoe Idealize.SL.Sem

variable (m : (ℓ : Loc nD τ sig) → Buf (Elt Ideal) ℓ) (c : Dev nD)

/-- Every window of the decoding region has its one block at the origin. -/
theorem idx : ∀ t : Fin cfg0.N, win0_0.index t = ![0, 0, 0, 0] ∧ win0_1.index t = ![0, 0, 0, 0]
    ∧ win0_2.index t = ![0, 0, 0, 0] ∧ win0_3.index t = ![0, 0, 0, 0] ∧ win0_4.index t = ![0, 0, 0, 0]
    ∧ win0_5.index t = ![0, 0, 0, 0] ∧ win0_6.index t = ![0, 0, 0, 0] ∧ win0_7.index t = ![0, 0, 0, 0] :=
  (by decide +kernel : ∀ t : Fin grid0.N, _)

/-! The input block of each window at the one point is its argument array. -/

theorem iblk0 : iblk m c 0 t0_0 = m ((c : Thread nD τ).loc main_arg0) := by blk_ext! [iblk, V, idx t0_0]
theorem iblk1 : iblk m c 1 t0_0 = m ((c : Thread nD τ).loc main_arg2) := by blk_ext! [iblk, V, idx t0_0]
theorem iblk2 : iblk m c 2 t0_0 = m ((c : Thread nD τ).loc main_arg4) := by blk_ext! [iblk, V, idx t0_0]
theorem iblk3 : iblk m c 3 t0_0 = m ((c : Thread nD τ).loc main_arg8) := by blk_ext! [iblk, V, idx t0_0]

/-- The decoded queries are the queries. -/
theorem reg0 : reg_main_v0_0 (F := Ideal) m c = fun j => m ((c : Thread nD τ).loc main_arg0) j := by
  refine (dats m 0 c).arrAt_eq_of_after_last 4 t0_0 (by decide +kernel) _ fun j => ?_
  blk_simp
  rw [after0_4]
  unfold out0_4
  frame_out
  rw [iblk0]
  rfl

/-- The decoded keys are the keys. -/
theorem reg1 : reg_main_v0_1 (F := Ideal) m c = fun j => m ((c : Thread nD τ).loc main_arg2) j := by
  refine (dats m 0 c).arrAt_eq_of_after_last 5 t0_0 (by decide +kernel) _ fun j => ?_
  blk_simp
  rw [after0_5]
  unfold out0_5
  frame_out
  rw [iblk1]
  rfl

/-- The decoded values are the values. -/
theorem reg2 : reg_main_v0_2 (F := Ideal) m c = fun j => m ((c : Thread nD τ).loc main_arg4) j := by
  refine (dats m 0 c).arrAt_eq_of_after_last 6 t0_0 (by decide +kernel) _ fun j => ?_
  blk_simp
  rw [after0_6]
  unfold out0_6
  frame_out
  rw [iblk2]
  rfl

/-- The decoded output gradient is the output gradient. -/
theorem reg3 : reg_main_v0_3 (F := Ideal) m c = fun j => m ((c : Thread nD τ).loc main_arg8) j := by
  refine (dats m 0 c).arrAt_eq_of_after_last 7 t0_0 (by decide +kernel) _ fun j => ?_
  blk_simp
  rw [after0_7]
  unfold out0_7
  frame_out
  rw [iblk3]
  rfl

/-- The reference's argument arrays as the formulas read them. -/
abbrev rargs : Args :=
  args (m ((c : Thread nD τ).loc main_arg1)) (m ((c : Thread nD τ).loc main_arg3)) (m ((c : Thread nD τ).loc main_arg5))
    (m ((c : Thread nD τ).loc main_arg6)) (m ((c : Thread nD τ).loc main_arg7)) (m ((c : Thread nD τ).loc main_arg9))
    (fun j => m ((c : Thread nD τ).loc main_arg0) j) (fun j => m ((c : Thread nD τ).loc main_arg2) j)
    (fun j => m ((c : Thread nD τ).loc main_arg4) j) (fun j => m ((c : Thread nD τ).loc main_arg8) j)

open Cert.ReferenceIdeal.Read in
/-- The first result array is the gradient of the queries. -/
theorem res74 (g : Fin 8) (h : Fin 4) (d : Fin 64) (i : Fin 1024) :
    val_main_v74 (F := Ideal) (exitV m c (Proc.devRef .tc main_arg1)) (exitV m c (Proc.devRef .tc main_arg3))
      (exitV m c (Proc.devRef .tc main_arg5)) (exitV m c (Proc.devRef .tc main_arg6)) (exitV m c (Proc.devRef .tc main_arg7))
      (exitV m c (Proc.devRef .tc main_arg9)) (exitV m c (Proc.devRef .tc main_v0_0)) (exitV m c (Proc.devRef .tc main_v0_1))
      (exitV m c (Proc.devRef .tc main_v0_2)) (exitV m c (Proc.devRef .tc main_v0_3)) (ix4 g h d i) = (rargs m c).dq g h d i := by
  rw [exit_main_arg1, exit_main_arg3, exit_main_arg5, exit_main_arg6, exit_main_arg7, exit_main_arg9, exit_main_v0_0,
    exit_main_v0_1, exit_main_v0_2, exit_main_v0_3, reg0, reg1, reg2, reg3]
  exact v74_eq _ _ _ _ _ _ _ _ _ _ g h d i

open Cert.ReferenceIdeal.Read in
/-- The second result array is the gradient of the keys. -/
theorem res76 (h : Fin 4) (d : Fin 64) (j : Fin 1024) :
    val_main_v76 (F := Ideal) (exitV m c (Proc.devRef .tc main_arg1)) (exitV m c (Proc.devRef .tc main_arg3))
      (exitV m c (Proc.devRef .tc main_arg5)) (exitV m c (Proc.devRef .tc main_arg6)) (exitV m c (Proc.devRef .tc main_arg7))
      (exitV m c (Proc.devRef .tc main_arg9)) (exitV m c (Proc.devRef .tc main_v0_0)) (exitV m c (Proc.devRef .tc main_v0_1))
      (exitV m c (Proc.devRef .tc main_v0_2)) (exitV m c (Proc.devRef .tc main_v0_3)) (ix3 h d j) = (rargs m c).dk h d j := by
  rw [exit_main_arg1, exit_main_arg3, exit_main_arg5, exit_main_arg6, exit_main_arg7, exit_main_arg9, exit_main_v0_0,
    exit_main_v0_1, exit_main_v0_2, exit_main_v0_3, reg0, reg1, reg2, reg3]
  exact v76_eq _ _ _ _ _ _ _ _ _ _ h d j

open Cert.ReferenceIdeal.Read in
/-- The third result array is the gradient of the values. -/
theorem res78 (h : Fin 4) (d : Fin 64) (j : Fin 1024) :
    val_main_v78 (F := Ideal) (exitV m c (Proc.devRef .tc main_arg1)) (exitV m c (Proc.devRef .tc main_arg3))
      (exitV m c (Proc.devRef .tc main_arg7)) (exitV m c (Proc.devRef .tc main_arg9)) (exitV m c (Proc.devRef .tc main_v0_0))
      (exitV m c (Proc.devRef .tc main_v0_1)) (exitV m c (Proc.devRef .tc main_v0_3)) (ix3 h d j) = (rargs m c).dv h d j := by
  rw [exit_main_arg1, exit_main_arg3, exit_main_arg7, exit_main_arg9, exit_main_v0_0, exit_main_v0_1, exit_main_v0_3,
    reg0, reg1, reg3]
  exact v78_eq _ _ _ _ _ _ _ _ _ _ h d j

end Cert.Own.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite_scale
public import proofs.«01_k».proof.Proof.Results
public import proofs.«01_k».proof.Proof.RefResults
public import Idealize.ShloMosaic.Lib.Claim
public import Idealize.ShloMosaic.Adequacy
public import Idealize.ShloMosaic.Init

@[expose] public section

noncomputable section

namespace Cert.Proof

open Idealize.ShloMosaic Idealize.SL.Sem

/-- A comparison `0 ≤ x` joined with `x < +inf` answers one only for `x` nonnegative and not `⊤`. -/
theorem of_compares {x : EReal}
    (h : Ideal.cmp .oge x (Ideal.ofBits .f32 0x00000000#32) &&& Ideal.cmp .olt x (Ideal.ofBits .f32 0x7F800000#32) = 1#1) :
    0 ≤ x ∧ x ≠ ⊤ := by
  have h0 : Ideal.ofBits .f32 0x00000000#32 = 0 := by simp [Ideal.ofBits, Ideal.ieee]
  have h1 : Ideal.ofBits .f32 0x7F800000#32 = ⊤ := by simp [Ideal.ofBits, Ideal.ieee]
  rw [h0, h1] at h
  unfold Ideal.cmp at h
  by_cases a : 0 ≤ x <;> by_cases b : x < ⊤
  · exact ⟨a, b.ne⟩
  all_goals simp [a, b] at h

/-- The precondition says of every row scale of the output gradient that it is nonnegative and finite from above. -/
theorem scale_bounds {m : (ℓ : Loc Cert.KernelIdeal.nD Cert.KernelIdeal.τ Cert.KernelIdeal.sig) → Buf (Elt Ideal) ℓ}
    (hp : Cert.Pre_KernelIdeal_finite_scale (hPre_finite_scale := Cert.Pre_finite_scale.Gen.facts) m)
    (c : Dev Cert.KernelIdeal.nD) (s : Fin 1024) :
    0 ≤ (Cert.Own.kargs m c).dsc s ∧ (Cert.Own.kargs m c).dsc s ≠ ⊤ :=
  of_compares (congrFun (hp c) (ix2 0 s))

/-- Each printed program runs, faults nowhere, keeps its arguments and ends with every semaphore at zero. -/
theorem frame_kernel : Cert.quiescent_Kernel (hKernel := Cert.Kernel.Gen.facts) :=
  fun m ρ _ => Cert.Kernel.Gen.frame m ρ

/-- The same of the kernel with its two constants named, from any memory. -/
theorem frame_ideal : Cert.quiescent_KernelIdeal (hKernelIdeal := Cert.KernelIdeal.Gen.facts) :=
  fun m ρ _ => Cert.KernelIdeal.Gen.frame m ρ

/-- The same of the reference, from any memory. -/
theorem frame_reference : Cert.quiescent_ReferenceIdeal (hReferenceIdeal := Cert.ReferenceIdeal.Gen.facts) :=
  fun m ρ _ => Cert.ReferenceIdeal.Gen.frame m ρ

/-- The two named constants of the kernel are the patterns it carries: `1 / log 2` and `1 / (8 log 2)`, rounded. -/
theorem preserves : Cert.preserves_Kernel_KernelIdeal :=
  ⟨IdealRules.named_const.statement _ _ _ _ _ rfl, IdealRules.named_const.statement _ _ _ _ _ rfl⟩

/-- Memories that agree on the arguments give the formulas the same operands. -/
theorem same_args {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD)
    (h : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)) :
    Cert.Own.Ref.rargs m' c = Cert.Own.kargs m c := by
  obtain ⟨h0, h1, h2, h3, h4, h5, h6, h7, h8, h9⟩ := h
  unfold Cert.Own.Ref.rargs Cert.Own.kargs Cert.Own.Ref.args
  rw [h0, h1, h2, h3, h4, h5, h6, h7, h8, h9]
  rfl

/-- From memories that agree on the arguments, and whose output-gradient scales are nonnegative and finite, the kernel and
    the reference leave the same three gradients. -/
theorem algebraic : Cert.algebraic_KernelIdeal_ReferenceIdeal_pre_finite_scale (hKernelIdeal := Cert.KernelIdeal.Gen.facts)
    (hReferenceIdeal := Cert.ReferenceIdeal.Gen.facts) (hPre_finite_scale := Cert.Pre_finite_scale.Gen.facts) := by
  intro m g m' g' hp hargs
  have hz := fun c s => (scale_bounds hp c s).1
  have ht := fun c s => (scale_bounds hp c s).2
  refine ⟨fun c => Cert.KernelIdeal.Value.G10 m c, fun c => Cert.KernelIdeal.Value.G11 m c,
    fun c => Cert.KernelIdeal.Value.G12 m c, Cert.KernelIdeal.Value.run m g, ?_⟩
  refine (θ_run Cert.ReferenceIdeal.defs _ _).mono (fun r h c => ?_) (Cert.ReferenceIdeal.Value.run m' g')
  obtain ⟨h74, h76, h78, hkeep⟩ := h c
  have ea := same_args c (hargs c)
  refine ⟨h74.trans ((Cert.ReferenceIdeal.Read.val_main_v74_eq _).trans (funext fun j => ?_)),
    h76.trans ((Cert.ReferenceIdeal.Read.val_main_v76_eq _).trans (funext fun j => ?_)),
    h78.trans ((Cert.ReferenceIdeal.Read.val_main_v78_eq _).trans (funext fun j => ?_)), hkeep⟩
  · obtain ⟨a, b, d, s, rfl⟩ : ∃ (a : Fin 8) (b : Fin 4) (d : Fin 64) (s : Fin 1024), j = ix4 a b d s :=
      ⟨j 0, j 1, j 2, j 3, eq_ix4 j⟩
    exact (Cert.Own.Ref.res74 m' c a b d s).trans
      ((congrArg (fun x : Cert.Own.Args => x.dq a b d s) ea).trans (Cert.Own.G10_at m c (hz c) (ht c) a b d s).symm)
  · obtain ⟨b, d, s, rfl⟩ : ∃ (b : Fin 4) (d : Fin 64) (s : Fin 1024), j = ix3 b d s := ⟨j 0, j 1, j 2, eq_ix3 j⟩
    exact (Cert.Own.Ref.res76 m' c b d s).trans
      ((congrArg (fun x : Cert.Own.Args => x.dk b d s) ea).trans (Cert.Own.G11_at m c (hz c) (ht c) b d s).symm)
  · obtain ⟨b, d, s, rfl⟩ : ∃ (b : Fin 4) (d : Fin 64) (s : Fin 1024), j = ix3 b d s := ⟨j 0, j 1, j 2, eq_ix3 j⟩
    exact (Cert.Own.Ref.res78 m' c b d s).trans
      ((congrArg (fun x : Cert.Own.Args => x.dv b d s) ea).trans (Cert.Own.G12_at m c (hz c) (ht c) b d s).symm)

/-- Every claim of this certificate. -/
theorem claim : Cert.Claim :=
  ⟨Cert.Kernel.Gen.facts, Cert.KernelIdeal.Gen.facts, Cert.ReferenceIdeal.Gen.facts, Cert.Pre_finite_scale.Gen.facts,
    frame_kernel, frame_ideal, fun m ρ _ => Cert.KernelIdeal.Gen.frame m ρ, frame_reference,
    fun m ρ _ => Cert.ReferenceIdeal.Gen.frame m ρ, preserves, algebraic⟩

end Cert.Proof

end
